-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "no_gate" .f32 0xF149F2CA#32 ⊥

def algebraic_KernelIdeal_ReferenceIdeal_on_no_tie [hKernelIdeal : Cert.KernelIdeal.Facts] [hReferenceIdeal : Cert.ReferenceIdeal.Facts] [hOn_no_tie : Cert.On_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 512]⟩ ⟨2, ![512, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 8]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 512]⟩ : Shape).Idx, (Layout.blockN ⟨2, ![128, 512]⟩ ⟨2, ![512, 512]⟩ (Layout.meshBlock [2, 4, 4] ![[2], []] c) ((Cert.On_no_tie.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![128, 512]⟩ : Shape).Idx → _) i = 1#1 → r.2.mem ((c.tc : Thread Cert.KernelIdeal.nD Cert.KernelIdeal.τ).loc Cert.KernelIdeal.main_v1) i = (Layout.blockN ⟨2, ![128, 512]⟩ ⟨2, ![512, 512]⟩ (Layout.meshBlock [2, 4, 4] ![[2], []] c) v0 : (⟨2, ![128, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_no_tie.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v45) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_no_tie : Cert.On_no_tie.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_no_tie (hKernelIdeal := hKernelIdeal) (hReferenceIdeal := hReferenceIdeal) (hOn_no_tie := hOn_no_tie)
-- ==== On_no_tie.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x3 : Shape := ⟨2, ![512, 3]⟩
abbrev S512x1 : Shape := ⟨2, ![512, 1]⟩
abbrev S512 : Shape := ⟨1, ![512]⟩
abbrev S_ : Shape := ⟨0, ![]⟩

class Facts : Prop where
  sliceFits_S512x8_S512x3 : S512x8.Slices (fun _ => 0) S512x3
  slices_S512x3_S512x1_0_0 : S512x3.Slices ![0, 0] S512x1
  shapeCasts_S512x1_S512 : S512x1.ShapeCasts S512
  slices_S512x3_S512x1_0_1 : S512x3.Slices ![0, 1] S512x1
  slices_S512x3_S512x1_0_2 : S512x3.Slices ![0, 2] S512x1
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x512_S512x8_S512x8_1_0_0_1_n_n_wf : DotDims.WF S512x512 S512x8 S512x8 [1] [0] [0] [1] [] []

variable [Facts]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def fn {F : FTy → Type} [FloatOps F] (main_arg0 : FVec F S512x512 .f32) (main_arg1 : FVec F S512x8 .f32) (main_arg2 : FVec F S8x512x1024 .f32) (main_arg3 : FVec F S8x1024x512 .f32) : IVec S512x512 1 :=
  let main_v0 : FVec F S512x8 .f32 := (fun l r => Host.dotGeneral dot_S512x512_S512x8_S512x8_1_0_0_1_n_n none l r) main_arg0 main_arg1
  let main_values : FVec F S512x3 .f32 := (fun x => (Host.topK S512x3 1 (FloatOps.cmpfTotal .gt) x sliceFits_S512x8_S512x3).1) main_v0
  let main_indices : IVec S512x3 32 := (fun x => (Host.topK S512x3 1 (FloatOps.cmpfTotal .gt) x sliceFits_S512x8_S512x3).2) main_v0
  let main_v1 : FVec F S512x1 .f32 := (extractStridedSlice S512x1 ![0, 0] · slices_S512x3_S512x1_0_0) main_values
  let main_v2 : FVec F S512 .f32 := shapeCast S512 main_v1 shapeCasts_S512x1_S512
  let main_v3 : FVec F S512x1 .f32 := (extractStridedSlice S512x1 ![0, 1] · slices_S512x3_S512x1_0_1) main_values
  let main_v4 : FVec F S512 .f32 := shapeCast S512 main_v3 shapeCasts_S512x1_S512
  let main_v5 : IVec S512 1 := cmpf .ogt main_v2 main_v4
  let main_v6 : FVec F S512x1 .f32 := (extractStridedSlice S512x1 ![0, 1] · slices_S512x3_S512x1_0_1) main_values
  let main_v7 : FVec F S512 .f32 := shapeCast S512 main_v6 shapeCasts_S512x1_S512
  let main_v8 : FVec F S512x1 .f32 := (extractStridedSlice S512x1 ![0, 2] · slices_S512x3_S512x1_0_2) main_values
  let main_v9 : FVec F S512 .f32 := shapeCast S512 main_v8 shapeCasts_S512x1_S512
  let main_v10 : IVec S512 1 := cmpf .ogt main_v7 main_v9
  let main_v11 : IVec S512 1 := andi main_v5 main_v10
  let main_v12 : FVec F S512x1 .f32 := (extractStridedSlice S512x1 ![0, 0] · slices_S512x3_S512x1_0_0) main_values
  let main_v13 : FVec F S512 .f32 := shapeCast S512 main_v12 shapeCasts_S512x1_S512
  let main_cst : FVec F S_ .f32 := constant S_ .f32 0x7F800000#32
  let main_v14 : FVec F S512 .f32 := broadcastInDim S512 ![] bcast_S_S512 main_cst
  let main_v15 : IVec S512 1 := cmpf .olt main_v13 main_v14
  let main_v16 : IVec S512 1 := andi main_v11 main_v15
  let main_v17 : IVec S512x1 1 := broadcastInDim S512x1 ![0] bcast_S512_S512x1_0 main_v16
  let main_v18 : IVec S512x512 1 := broadcastInDim S512x512 ![0, 1] bcast_S512x1_S512x512_0_1 main_v17
  main_v18
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S4x128x512 : Shape := ⟨3, ![4, 128, 512]⟩
abbrev S4x512x2 : Shape := ⟨3, ![4, 512, 2]⟩
abbrev S3x128x512 : Shape := ⟨3, ![3, 128, 512]⟩
abbrev S3 : Shape := ⟨1, ![3]⟩
abbrev S_ : Shape := ⟨0, ![]⟩
abbrev S1x128x512 : Shape := ⟨3, ![1, 128, 512]⟩
abbrev S1x512x2 : Shape := ⟨3, ![1, 512, 2]⟩
abbrev S1 : Shape := ⟨1, ![1]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S128x512, .f32⟩
  | .local _ .vmem, ⟨5, _⟩ => ⟨S4x128x512, .f32⟩
  | .local _ .vmem, ⟨6, _⟩ => ⟨S4x512x2, .f32⟩
  | .local _ .vmem, ⟨7, _⟩ => ⟨S4x128x512, .f32⟩
  | .local _ .vmem, ⟨8, _⟩ => ⟨S3x128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_8 : BitVec 32 := 16#32
  let v15 : BitVec 32 := Scalar.muli v5 c16_i32_8
  let v16 : BitVec 32 := Scalar.addi c0_i32 v15
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_9 : BitVec 32 := 4#32
  let v17 : BitVec 32 := Scalar.muli v8 c4_i32_9
  let v18 : BitVec 32 := Scalar.addi v16 v17
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.subi v2 c1_i32_2
  let c4_i32_3 : BitVec 32 := 4#32
  let v10 : BitVec 32 := Scalar.addi v9 c4_i32_3
  let c4_i32_4 : BitVec 32 := 4#32
  let v11 : BitVec 32 := Scalar.remsi v10 c4_i32_4
  let c1_i32_10 : BitVec 32 := 1#32
  let v19 : BitVec 32 := Scalar.muli v11 c1_i32_10
  let v20 : BitVec 32 := Scalar.addi v18 v19
  v20.toNat
def k0_dev2 (d0 : Dev nD) : Nat :=
  let c0_i32_13 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_12 : BitVec 32 := 16#32
  let v21 : BitVec 32 := Scalar.muli v5 c16_i32_12
  let v22 : BitVec 32 := Scalar.addi c0_i32_13 v21
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_14 : BitVec 32 := 4#32
  let v23 : BitVec 32 := Scalar.muli v8 c4_i32_14
  let v24 : BitVec 32 := Scalar.addi v22 v23
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_15 : BitVec 32 := 1#32
  let v25 : BitVec 32 := Scalar.muli v13 c1_i32_15
  let v26 : BitVec 32 := Scalar.addi v24 v25
  v26.toNat
def k0_dev3 (d0 : Dev nD) : Nat :=
  let c0_i32_31 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_30 : BitVec 32 := 16#32
  let v37 : BitVec 32 := Scalar.muli v5 c16_i32_30
  let v38 : BitVec 32 := Scalar.addi c0_i32_31 v37
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_32 : BitVec 32 := 4#32
  let v39 : BitVec 32 := Scalar.muli v8 c4_i32_32
  let v40 : BitVec 32 := Scalar.addi v38 v39
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_33 : BitVec 32 := 1#32
  let v41 : BitVec 32 := Scalar.muli v13 c1_i32_33
  let v42 : BitVec 32 := Scalar.addi v40 v41
  v42.toNat
def k0_dev4 (d0 : Dev nD) : Nat :=
  let c0_i32_43 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_42 : BitVec 32 := 16#32
  let v51 : BitVec 32 := Scalar.muli v5 c16_i32_42
  let v52 : BitVec 32 := Scalar.addi c0_i32_43 v51
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_44 : BitVec 32 := 4#32
  let v53 : BitVec 32 := Scalar.muli v8 c4_i32_44
  let v54 : BitVec 32 := Scalar.addi v52 v53
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_45 : BitVec 32 := 1#32
  let v55 : BitVec 32 := Scalar.muli v13 c1_i32_45
  let v56 : BitVec 32 := Scalar.addi v54 v55
  v56.toNat
def k0_dev5 (d0 : Dev nD) : Nat :=
  let c0_i32_97 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_96 : BitVec 32 := 16#32
  let v101 : BitVec 32 := Scalar.muli v5 c16_i32_96
  let v102 : BitVec 32 := Scalar.addi c0_i32_97 v101
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_98 : BitVec 32 := 4#32
  let v103 : BitVec 32 := Scalar.muli v8 c4_i32_98
  let v104 : BitVec 32 := Scalar.addi v102 v103
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_99 : BitVec 32 := 1#32
  let v105 : BitVec 32 := Scalar.muli v13 c1_i32_99
  let v106 : BitVec 32 := Scalar.addi v104 v105
  v106.toNat
def k0_dev6 (d0 : Dev nD) : Nat :=
  let c0_i32_109 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_108 : BitVec 32 := 16#32
  let v115 : BitVec 32 := Scalar.muli v5 c16_i32_108
  let v116 : BitVec 32 := Scalar.addi c0_i32_109 v115
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_110 : BitVec 32 := 4#32
  let v117 : BitVec 32 := Scalar.muli v8 c4_i32_110
  let v118 : BitVec 32 := Scalar.addi v116 v117
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_111 : BitVec 32 := 1#32
  let v119 : BitVec 32 := Scalar.muli v13 c1_i32_111
  let v120 : BitVec 32 := Scalar.addi v118 v119
  v120.toNat
def k0_dev7 (d0 : Dev nD) : Nat :=
  let c0_i32_162 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_161 : BitVec 32 := 16#32
  let v165 : BitVec 32 := Scalar.muli v5 c16_i32_161
  let v166 : BitVec 32 := Scalar.addi c0_i32_162 v165
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_163 : BitVec 32 := 4#32
  let v167 : BitVec 32 := Scalar.muli v8 c4_i32_163
  let v168 : BitVec 32 := Scalar.addi v166 v167
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_164 : BitVec 32 := 1#32
  let v169 : BitVec 32 := Scalar.muli v13 c1_i32_164
  let v170 : BitVec 32 := Scalar.addi v168 v169
  v170.toNat
def k0_dev8 (d0 : Dev nD) : Nat :=
  let c0_i32_174 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_173 : BitVec 32 := 16#32
  let v179 : BitVec 32 := Scalar.muli v5 c16_i32_173
  let v180 : BitVec 32 := Scalar.addi c0_i32_174 v179
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_175 : BitVec 32 := 4#32
  let v181 : BitVec 32 := Scalar.muli v8 c4_i32_175
  let v182 : BitVec 32 := Scalar.addi v180 v181
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v12 : BitVec 32 := Scalar.addi v2 c1_i32_5
  let c4_i32_6 : BitVec 32 := 4#32
  let v13 : BitVec 32 := Scalar.remsi v12 c4_i32_6
  let c1_i32_176 : BitVec 32 := 1#32
  let v183 : BitVec 32 := Scalar.muli v13 c1_i32_176
  let v184 : BitVec 32 := Scalar.addi v182 v183
  v184.toNat
def k0_dev9 (d0 : Dev nD) : Nat :=
  let c0_i32_270 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_269 : BitVec 32 := 16#32
  let v294 : BitVec 32 := Scalar.muli v5 c16_i32_269
  let v295 : BitVec 32 := Scalar.addi c0_i32_270 v294
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_271 : BitVec 32 := 4#32
  let v296 : BitVec 32 := Scalar.muli v8 c4_i32_271
  let v297 : BitVec 32 := Scalar.addi v295 v296
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.subi v2 c1_i32_2
  let c4_i32_3 : BitVec 32 := 4#32
  let v10 : BitVec 32 := Scalar.addi v9 c4_i32_3
  let c4_i32_4 : BitVec 32 := 4#32
  let v11 : BitVec 32 := Scalar.remsi v10 c4_i32_4
  let c1_i32_272 : BitVec 32 := 1#32
  let v298 : BitVec 32 := Scalar.muli v11 c1_i32_272
  let v299 : BitVec 32 := Scalar.addi v297 v298
  v299.toNat
def k0_dev10 (d0 : Dev nD) : Nat :=
  let c0_i32_312 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_311 : BitVec 32 := 16#32
  let v334 : BitVec 32 := Scalar.muli v5 c16_i32_311
  let v335 : BitVec 32 := Scalar.addi c0_i32_312 v334
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_313 : BitVec 32 := 4#32
  let v336 : BitVec 32 := Scalar.muli v8 c4_i32_313
  let v337 : BitVec 32 := Scalar.addi v335 v336
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.subi v2 c1_i32_2
  let c4_i32_3 : BitVec 32 := 4#32
  let v10 : BitVec 32 := Scalar.addi v9 c4_i32_3
  let c4_i32_4 : BitVec 32 := 4#32
  let v11 : BitVec 32 := Scalar.remsi v10 c4_i32_4
  let c1_i32_314 : BitVec 32 := 1#32
  let v338 : BitVec 32 := Scalar.muli v11 c1_i32_314
  let v339 : BitVec 32 := Scalar.addi v337 v338
  v339.toNat
def k0_dev11 (d0 : Dev nD) : Nat :=
  let c0_i32_354 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_353 : BitVec 32 := 16#32
  let v374 : BitVec 32 := Scalar.muli v5 c16_i32_353
  let v375 : BitVec 32 := Scalar.addi c0_i32_354 v374
  let v6 : BitVec 32 := Dev.word d0
  let c4_i32_1 : BitVec 32 := 4#32
  let v7 : BitVec 32 := Scalar.divsi v6 c4_i32_1
  let c4_i32_0 : BitVec 32 := 4#32
  let v8 : BitVec 32 := Scalar.remsi v7 c4_i32_0
  let c4_i32_355 : BitVec 32 := 4#32
  let v376 : BitVec 32 := Scalar.muli v8 c4_i32_355
  let v377 : BitVec 32 := Scalar.addi v375 v376
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.subi v2 c1_i32_2
  let c4_i32_3 : BitVec 32 := 4#32
  let v10 : BitVec 32 := Scalar.addi v9 c4_i32_3
  let c4_i32_4 : BitVec 32 := 4#32
  let v11 : BitVec 32 := Scalar.remsi v10 c4_i32_4
  let c1_i32_356 : BitVec 32 := 1#32
  let v378 : BitVec 32 := Scalar.muli v11 c1_i32_356
  let v379 : BitVec 32 := Scalar.addi v377 v378
  v379.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "no_gate" => some ⊥
  | _ => none
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S8x512x512 : Shape := ⟨3, ![8, 512, 512]⟩
abbrev S8 : Shape := ⟨1, ![8]⟩
abbrev S8x1x1 : Shape := ⟨3, ![8, 1, 1]⟩
abbrev S1x512x1 : Shape := ⟨3, ![1, 512, 1]⟩
abbrev S8x512x1 : Shape := ⟨3, ![8, 512, 1]⟩

abbrev nBuf : Space → Nat
  | .hbm => 66
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x8, .f32⟩
  | .hbm, ⟨2, _⟩ => ⟨S8x512x1024, .f32⟩
  | .hbm, ⟨3, _⟩ => ⟨S8x1024x512, .f32⟩
  | .hbm, ⟨4, _⟩ => ⟨S512x8, .f32⟩
  | .hbm, ⟨5, _⟩ => ⟨S512x2, .f32⟩
  | .hbm, ⟨6, _⟩ => ⟨S512x2, .i32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x2, .f32⟩
  | .hbm, ⟨11, _⟩ => ⟨S512x2, .f32⟩
  | .hbm, ⟨12, _⟩ => ⟨S512x2, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x2, .f32⟩
  | .hbm, ⟨17, _⟩ => ⟨S512x2, .f32⟩
  | .hbm, ⟨18, _⟩ => ⟨S8x1024x512, .f32⟩
  | .hbm, ⟨19, _⟩ => ⟨S8x512x1024, .f32⟩
  | .hbm, ⟨20, _⟩ => ⟨S_, .f32⟩
  | .hbm, ⟨21, _⟩ => ⟨S8x512x1024, .f32⟩
  | .hbm, ⟨22, _⟩ => ⟨S8x512x1024, .f32⟩
  | .hbm, ⟨23, _⟩ => ⟨S8x512x512, .f32⟩
  | .hbm, ⟨24, _⟩ => ⟨S8, .i32⟩
  | .hbm, ⟨25, _⟩ => ⟨S8x1x1, .i32⟩
  | .hbm, ⟨26, _⟩ => ⟨S_, .f32⟩
  | .hbm, ⟨27, _⟩ => ⟨S512x512, .f32⟩
  | .hbm, ⟨28, _⟩ => ⟨S512x1, .i32⟩
  | .hbm, ⟨29, _⟩ => ⟨S512, .i32⟩
  | .hbm, ⟨30, _⟩ => ⟨S1x512x1, .i32⟩
  | .hbm, ⟨31, _⟩ => ⟨S8x512x1, .i32⟩
  | .hbm, ⟨32, _⟩ => ⟨S8x512x1, .i32⟩
  | .hbm, ⟨33, _⟩ => ⟨S8x512x1, .i1⟩
  | .hbm, ⟨34, _⟩ => ⟨S512x1, .f32⟩
  | .hbm, ⟨35, _⟩ => ⟨S512, .f32⟩
  | .hbm, ⟨36, _⟩ => ⟨S1x512x1, .f32⟩
  | .hbm, ⟨37, _⟩ => ⟨S8x512x512, .f32⟩
  | .hbm, ⟨38, _⟩ => ⟨S8x512x512, .f32⟩
  | .hbm, ⟨39, _⟩ => ⟨S_, .f32⟩
  | .hbm, ⟨40, _⟩ => ⟨S_, .f32⟩
  | .hbm, ⟨41, _⟩ => ⟨S8x512x512, .i1⟩
  | .hbm, ⟨42, _⟩ => ⟨S8x512x512, .f32⟩
  | .hbm, ⟨43, _⟩ => ⟨S8x512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x1, .i32⟩
  | .hbm, ⟨48, _⟩ => ⟨S512, .i32⟩
  | .hbm, ⟨49, _⟩ => ⟨S1x512x1, .i32⟩
  | .hbm, ⟨50, _⟩ => ⟨S8x512x1, .i32⟩
  | .hbm, ⟨51, _⟩ => ⟨S8x512x1, .i32⟩
  | .hbm, ⟨52, _⟩ => ⟨S8x512x1, .i1⟩
  | .hbm, ⟨53, _⟩ => ⟨S512x1, .f32⟩
  | .hbm, ⟨54, _⟩ => ⟨S512, .f32⟩
  | .hbm, ⟨55, _⟩ => ⟨S1x512x1, .f32⟩
  | .hbm, ⟨56, _⟩ => ⟨S8x512x512, .f32⟩
  | .hbm, ⟨57, _⟩ => ⟨S8x512x512, .f32⟩
  | .hbm, ⟨58, _⟩ => ⟨S_, .f32⟩
  | .hbm, ⟨59, _⟩ => ⟨S_, .f32⟩
  | .hbm, ⟨60, _⟩ => ⟨S8x512x512, .i1⟩
  | .hbm, ⟨61, _⟩ => ⟨S8x512x512, .f32⟩
  | .hbm, ⟨62, _⟩ => ⟨S8x512x512, .f32⟩
  | .hbm, ⟨63, _⟩ => ⟨S_, .f32⟩
  | .hbm, ⟨64, _⟩ => ⟨S512x512, .f32⟩
  | .hbm, ⟨65, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Proof.Slots.lean ====
/-
# A buffer of equal slots

A scratch buffer of shape `n × R × C` is used as `n` slots of shape `R × C`, each filled and sent on its own. Here: contents
given slot by slot (`stack`), reading and writing one slot of such contents, and the split of the whole buffer into its slots.
-/
module

public import Idealize.ShloMosaic.Lib.Pipeline.Value
public import Idealize.ShloMosaic.Lib.Ring
public import Idealize.ShloMosaic.Lib.Pointwise.Index
public import Idealize.ShloMosaic.Lib.Tactic

@[expose] public section

noncomputable section

namespace Cert.Slots

open Idealize.ShloMosaic

section Stack

variable {n R C : ℕ} {E : Type}

/-- The contents of an `n × R × C` buffer whose slot `k` holds `f k`. -/
def stack (f : Fin n → (⟨3, ![1, R, C]⟩ : Shape).Idx → E) : (⟨3, ![n, R, C]⟩ : Shape).Idx → E :=
  fun i => f (i 0) (ix3 (n0 := 1) (n1 := R) (n2 := C) 0 (i 1) (i 2))

/-- Slot `k` of contents `g`. -/
def slotOf (g : (⟨3, ![n, R, C]⟩ : Shape).Idx → E) (k : Fin n) : (⟨3, ![1, R, C]⟩ : Shape).Idx → E :=
  fun z => g (ix3 (n0 := n) (n1 := R) (n2 := C) k (z 1) (z 2))

/-- Contents are the stack of their slots. -/
theorem stack_slotOf (g : (⟨3, ![n, R, C]⟩ : Shape).Idx → E) : stack (slotOf g) = g :=
  funext fun i => congrArg g (ix3_eta i)

theorem inb {k : ℕ} (hk : k < n) : ∀ a, (![k, 0, 0] : Fin 3 → ℕ) a + (⟨3, ![1, R, C]⟩ : Shape).size a ≤ (⟨3, ![n, R, C]⟩ : Shape).size a := by
  intro a
  match a with
  | ⟨0, _⟩ => show k + 1 ≤ n; omega
  | ⟨1, _⟩ => show 0 + R ≤ R; omega
  | ⟨2, _⟩ => show 0 + C ≤ C; omega

/-- The rectangle of slot `k`. -/
abbrev rect {n : ℕ} (R C : ℕ) (k : ℕ) (hk : k < n) : Rect (⟨3, ![n, R, C]⟩ : Shape) :=
  Rect.unit (s := ⟨3, ![n, R, C]⟩) ![k, 0, 0] (⟨3, ![1, R, C]⟩ : Shape).size (inb hk)

/-- Where slot `k`'s rectangle places an index. -/
theorem rect_emb {k : ℕ} (hk : k < n) (z : (⟨3, ![1, R, C]⟩ : Shape).Idx) :
    (rect R C k hk).emb z = ix3 (n0 := n) (n1 := R) (n2 := C) ⟨k, hk⟩ (z 1) (z 2) := by
  funext a
  refine Fin.ext ?_
  rw [Rect.emb_apply]
  have h0 : (z 0).val = 0 := Nat.lt_one_iff.mp (z 0).isLt
  match a with
  | ⟨0, _⟩ => show k + 1 * (z 0).val = k; rw [h0, Nat.mul_zero, Nat.add_zero]
  | ⟨1, _⟩ => show 0 + 1 * (z 1).val = (z 1).val; omega
  | ⟨2, _⟩ => show 0 + 1 * (z 2).val = (z 2).val; omega

/-- A stack read at slot `k`'s rectangle is what slot `k` holds. -/
theorem stack_rect (f : Fin n → (⟨3, ![1, R, C]⟩ : Shape).Idx → E) {k : ℕ} (hk : k < n) (z : (⟨3, ![1, R, C]⟩ : Shape).Idx) :
    stack f ((rect R C k hk).emb z) = f ⟨k, hk⟩ z := by
  rw [rect_emb]
  show f ⟨k, hk⟩ (ix3 (n0 := 1) (n1 := R) (n2 := C) 0 (z 1) (z 2)) = f ⟨k, hk⟩ z
  congr 1
  rw [eq_ix3 z]
  exact congrArg (fun u : Fin 1 => ix3 (n0 := 1) (n1 := R) (n2 := C) u (z 1) (z 2)) (Subsingleton.elim _ _)

theorem slotOf_rect (g : (⟨3, ![n, R, C]⟩ : Shape).Idx → E) {k : ℕ} (hk : k < n) (z : (⟨3, ![1, R, C]⟩ : Shape).Idx) :
    g ((rect R C k hk).emb z) = slotOf g ⟨k, hk⟩ z := by rw [rect_emb]; rfl

/-- The slots' rectangles are pairwise disjoint … -/
theorem rect_disjoint (k j : Fin n) (h : k ≠ j) : Disjoint (rect R C k.val k.isLt).set (rect R C j.val j.isLt).set :=
  Ring.lead_disjoint (s := ⟨3, ![n, R, C]⟩) (0 : Fin 3) 1 (fun k : Fin n => ![k.val, 0, 0]) _ (fun k => inb k.isLt) (fun k => (Nat.one_mul _).symm) rfl k j h

/-- … and cover the buffer. -/
theorem rect_cover : Finset.univ.biUnion (fun k : Fin n => (rect R C k.val k.isLt).set) = Finset.univ :=
  Ring.lead_cover (s := ⟨3, ![n, R, C]⟩) (0 : Fin 3) 1 (fun k : Fin n => ![k.val, 0, 0]) _ (fun k => inb k.isLt) (fun k => (Nat.one_mul _).symm)
    (fun k a ha => by match a with | ⟨0, _⟩ => exact absurd rfl ha | ⟨1, _⟩ => rfl | ⟨2, _⟩ => rfl) rfl
    (fun a ha => by match a with | ⟨0, _⟩ => exact absurd rfl ha | ⟨1, _⟩ => rfl | ⟨2, _⟩ => rfl) (Nat.mul_one n)

end Stack

/-- Contents written whole through a view are, on the view's elements, any contents that read back what was written. -/
theorem landed {sig : RefSig} {κ : Kind} {sp : Space} {s : Shape} {e : EltTy} {Val : EltTy → Type} (v : View sig κ sp s e)
    (fd g : v.ty.Contents Val) (w : s.Idx → Val e) (h : w = v.read Val g) :
    ∀ i ∈ v.set, v.write Val fd w Finset.univ i = g i := by
  intro i hi
  obtain ⟨x, -, rfl⟩ := Finset.mem_map.mp hi
  rw [View.write_emb_of_mem _ _ (Finset.mem_univ x), h, View.read_apply, cast_cast, cast_eq]

end Cert.Slots

end
-- ==== Proof.KernelIdeal.Talk.lean ====
/-
# What the devices say to each other

The kernel runs on rings of four devices (the `z` axis of the mesh). A device signals both neighbours' barrier and waits for
two; then its block of tokens and its columns of the router travel right, three hops each, and the partial outputs travel
left, three hops, each device adding its own. This module states, for any float values, what every buffer holds along the
way, and the schedule of the nineteen semaphores a device waits on: the barrier and eighteen transfer semaphores.
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The next device along the `z` axis. -/
def right (c : Dev nD) : Dev nD := ⟨16 * (c.val / 16) + 4 * ((c.val / 4) % 4) + (((c.val % 4) + 1) % 4), by have := c.isLt; simp only [nD] at *; omega⟩
set_option backward.proofsInPublic true in
/-- The device before along the `z` axis. -/
def left (c : Dev nD) : Dev nD := ⟨16 * (c.val / 16) + 4 * ((c.val / 4) % 4) + (((c.val % 4) + 3) % 4), by have := c.isLt; simp only [nD] at *; omega⟩

theorem left_right (c : Dev nD) : left (right c) = c := by revert c; decide
theorem right_left (c : Dev nD) : right (left c) = c := by revert c; decide
def ring : Dev nD ≃ Dev nD := ⟨right, left, left_right, right_left⟩

/-! ## The buffers' slots -/

abbrev xgM : Memref sig .tc .vmem S4x128x512 .f32 := Memref.whole cc0_scratch0
abbrev rgM : Memref sig .tc .vmem S4x512x2 .f32 := Memref.whole cc0_scratch1
abbrev acM : Memref sig .tc .vmem S4x128x512 .f32 := Memref.whole cc0_scratch2
abbrev rsM : Memref sig .tc .vmem S3x128x512 .f32 := Memref.whole cc0_scratch3

/-- Slot `k` of the gathered tokens, of the gathered router columns, of the partial outputs, of the received partial outputs. -/
abbrev xgS (k : ℕ) (hk : k < 4 := by decide) : Memref sig .tc .vmem S128x512 .f32 :=
  (xgM.slice (rect 128 512 k hk) (fun _ => rfl)).squeeze S128x512 squeezes_S1x128x512_S128x512
abbrev rgS (k : ℕ) (hk : k < 4 := by decide) : Memref sig .tc .vmem S512x2 .f32 :=
  (rgM.slice (rect 512 2 k hk) (fun _ => rfl)).squeeze S512x2 squeezes_S1x512x2_S512x2
abbrev acS (k : ℕ) (hk : k < 4 := by decide) : Memref sig .tc .vmem S128x512 .f32 :=
  (acM.slice (rect 128 512 k hk) (fun _ => rfl)).squeeze S128x512 squeezes_S1x128x512_S128x512
abbrev rsS (k : ℕ) (hk : k < 3 := by decide) : Memref sig .tc .vmem S128x512 .f32 :=
  (rsM.slice (rect 128 512 k hk) (fun _ => rfl)).squeeze S128x512 squeezes_S1x128x512_S128x512

/-- Device `c` owns that slot, the buffer's contents there being `g`'s. -/
def xP (c : Dev nD) (k : ℕ) (hk : k < 4) (g : Buf (Elt F) (xgM.view.loc (c : Thread nD τ))) : sProp 𝕄 :=
  (xgS k hk).view.loc (c : Thread nD τ) ↦[(xgS k hk).view.set]{fullShare} g
def rP (c : Dev nD) (k : ℕ) (hk : k < 4) (g : Buf (Elt F) (rgM.view.loc (c : Thread nD τ))) : sProp 𝕄 :=
  (rgS k hk).view.loc (c : Thread nD τ) ↦[(rgS k hk).view.set]{fullShare} g
def aP (c : Dev nD) (k : ℕ) (hk : k < 4) (g : Buf (Elt F) (acM.view.loc (c : Thread nD τ))) : sProp 𝕄 :=
  (acS k hk).view.loc (c : Thread nD τ) ↦[(acS k hk).view.set]{fullShare} g
def sP (c : Dev nD) (k : ℕ) (hk : k < 3) (g : Buf (Elt F) (rsM.view.loc (c : Thread nD τ))) : sProp 𝕄 :=
  (rsS k hk).view.loc (c : Thread nD τ) ↦[(rsS k hk).view.set]{fullShare} g

instance (c : Dev nD) (k hk g) : BI.Storable (upEmb : UEmb _ 𝕄) (xP (F := F) c k hk g) := by unfold xP; infer_instance
instance (c : Dev nD) (k hk g) : BI.Storable (upEmb : UEmb _ 𝕄) (rP (F := F) c k hk g) := by unfold rP; infer_instance
instance (c : Dev nD) (k hk g) : BI.Storable (upEmb : UEmb _ 𝕄) (aP (F := F) c k hk g) := by unfold aP; infer_instance
instance (c : Dev nD) (k hk g) : BI.Storable (upEmb : UEmb _ 𝕄) (sP (F := F) c k hk g) := by unfold sP; infer_instance

/-! ## Contents -/

/-- What the staging buffers of the four arguments hold on device `c`. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def ustg (c : Dev nD) : (cc0_stg2_0 : Ref sig .tc).ty.Contents (Elt F) :=
  (win0_2.blk (0 : Fin 1)).view.read (Elt F) ((s₀ m ρ).mem ((c : Thread nD τ).loc main_arg2))
def vstg (c : Dev nD) : (cc0_stg3_0 : Ref sig .tc).ty.Contents (Elt F) :=
  (win0_3.blk (0 : Fin 1)).view.read (Elt F) ((s₀ m ρ).mem ((c : Thread nD τ).loc main_arg3))

/-- Device `c`'s own tokens and router columns, as it puts them in slot 0. -/
def x0 (c : Dev nD) : Vec F S1x128x512 .f32 := k0_pay4 (k0_pay3 (xstg m ρ c))
def g0 (c : Dev nD) : Vec F S1x512x2 .f32 := k0_pay5 (rstg m ρ c)

/-- The gathered tokens: slot `k` holds those of the device `k` to the left. -/
def xgF (c : Dev nD) : Fin 4 → Vec F S1x128x512 .f32 := ![x0 m ρ c, x0 m ρ (left c), x0 m ρ (left (left c)), x0 m ρ (left (left (left c)))]
/-- The gathered router columns, likewise. -/
def rgF (c : Dev nD) : Fin 4 → Vec F S1x512x2 .f32 := ![g0 m ρ c, g0 m ρ (left c), g0 m ρ (left (left c)), g0 m ρ (left (left (left c)))]

/-- Device `c`'s two experts on all the gathered tokens, weighted by their gates: the partial outputs it computes. -/
def part (c : Dev nD) : Vec F S4x128x512 .f32 :=
  k0_pay12 (k0_pay6 (stack (xgF m ρ c)))
    (k0_pay10 (stack (xgF m ρ c)) (rgF m ρ c 0) (rgF m ρ c 1) (rgF m ρ c 2) (rgF m ρ c 3))
    (k0_pay11 (stack (xgF m ρ c)) (rgF m ρ c 0) (rgF m ρ c 1) (rgF m ρ c 2) (rgF m ρ c 3))
    (Scalar.ofBits .f32 0x3F800000#32)
    (slotOf (n := 2) (R := 512) (C := 1024) (ustg m ρ c) 0) (slotOf (n := 2) (R := 1024) (C := 512) (vstg m ρ c) 0)
    (slotOf (n := 2) (R := 512) (C := 1024) (ustg m ρ c) 1) (slotOf (n := 2) (R := 1024) (C := 512) (vstg m ρ c) 1)

/-- Slot `k` of them. -/
def pt (c : Dev nD) (k : Fin 4) : Vec F S1x128x512 .f32 := slotOf (n := 4) (R := 128) (C := 512) (part m ρ c) k

/-- What device `c` sends left at each of the three hops, and what it ends with in slot 0: its own partial output for the
    tokens concerned, plus what came from the right. -/
def p3 (c : Dev nD) : Vec F S1x128x512 .f32 := pt m ρ c 3
def p2 (c : Dev nD) : Vec F S1x128x512 .f32 := k0_pay13 (pt m ρ c 2) (p3 m ρ (right c))
def p1 (c : Dev nD) : Vec F S1x128x512 .f32 := k0_pay14 (pt m ρ c 1) (p2 m ρ (right c))
def p0 (c : Dev nD) : Vec F S1x128x512 .f32 := k0_pay1 (pt m ρ c 0) (p1 m ρ (right c))

/-- The partial outputs at the end, and the received ones. -/
def acF (c : Dev nD) : Fin 4 → Vec F S1x128x512 .f32 := ![p0 m ρ c, p1 m ρ c, p2 m ρ c, p3 m ρ c]
def rsF (c : Dev nD) : Fin 3 → Vec F S1x128x512 .f32 := ![p3 m ρ (right c), p2 m ρ (right c), p1 m ρ (right c)]

/-- The kernel's result on device `c`. -/
def outAt (c : Dev nD) : (cc0_stg4_0 : Ref sig .tc).ty.Contents (Elt F) := k0_pay2 (p0 m ρ c)

/-! ## The cells -/

/-- The barrier semaphore, and transfer semaphore `j`: tokens sent (0–2) and received (3–5), router columns sent (6–8) and
    received (9–11), partial outputs sent (12–14) and received (15–17), each by hop. -/
abbrev barS : Sem sig := (SemArray.scalar (sig.barrier 0 rfl) : Sems sig S_).sem
set_option backward.proofsInPublic true in
abbrev dmaS (j : Fin 18) : DmaSem sig := (⟨5 + j.val, by have := j.isLt; show 5 + j.val < 23; omega⟩ : Fin 23)

abbrev barC (c : Dev nD) : GSem nD τ sig := ((c : Thread nD τ), .reg barS)
abbrev dmaC (c : Dev nD) (j : Fin 18) : GSem nD τ sig := ((c : Thread nD τ), .dma (dmaS j))

abbrev Nx : ℕ := (xgS 0).view.dmaCredit
abbrev Nr : ℕ := (rgS 0).view.dmaCredit
theorem Nx_pos : 0 < Nx := View.dmaCredit_pos _ (by decide)
theorem Nr_pos : 0 < Nr := View.dmaCredit_pos _ (by decide)

/-- The credit of a transfer completing on semaphore number `q`. -/
def crd (q : ℕ) : ℕ := if 11 ≤ q ∧ q < 17 then Nr else Nx
theorem crd_pos (q : ℕ) : 0 < crd q := by unfold crd; split; exacts [Nr_pos, Nx_pos]

/-! ## The schedule -/

/-- What the right neighbour's barrier signal hands device `c`: the right neighbour's slots its tokens and columns travel into. -/
def barR (c : Dev nD) : sProp 𝕄 :=
  iprop(((∃ g, xP (right c) 1 (by decide) g) ∗ (∃ g, xP (right c) 2 (by decide) g) ∗ (∃ g, xP (right c) 3 (by decide) g))
    ∗ (∃ g, rP (right c) 1 (by decide) g) ∗ (∃ g, rP (right c) 2 (by decide) g) ∗ (∃ g, rP (right c) 3 (by decide) g))
/-- What the left neighbour's hands it: the left neighbour's slots the partial outputs travel into. -/
def barL (c : Dev nD) : sProp 𝕄 :=
  iprop((∃ g, sP (left c) 0 (by decide) g) ∗ (∃ g, sP (left c) 1 (by decide) g) ∗ (∃ g, sP (left c) 2 (by decide) g))

/-- What completion of transfer semaphore `j` hands device `c`: of a send, the slot sent from; of a receipt, the slot
    received into, at what it now holds. -/
def dpay (c : Dev nD) : Fin 18 → sProp 𝕄 := fun j => match j with
  | 0 => xP c 0 (by decide) (stack (xgF m ρ c)) | 1 => xP c 1 (by decide) (stack (xgF m ρ c)) | 2 => xP c 2 (by decide) (stack (xgF m ρ c))
  | 3 => xP c 1 (by decide) (stack (xgF m ρ c)) | 4 => xP c 2 (by decide) (stack (xgF m ρ c)) | 5 => xP c 3 (by decide) (stack (xgF m ρ c))
  | 6 => rP c 0 (by decide) (stack (rgF m ρ c)) | 7 => rP c 1 (by decide) (stack (rgF m ρ c)) | 8 => rP c 2 (by decide) (stack (rgF m ρ c))
  | 9 => rP c 1 (by decide) (stack (rgF m ρ c)) | 10 => rP c 2 (by decide) (stack (rgF m ρ c)) | 11 => rP c 3 (by decide) (stack (rgF m ρ c))
  | 12 => aP c 3 (by decide) (stack (acF m ρ c)) | 13 => aP c 2 (by decide) (stack (acF m ρ c)) | 14 => aP c 1 (by decide) (stack (acF m ρ c))
  | 15 => sP c 0 (by decide) (stack (rsF m ρ c)) | 16 => sP c 1 (by decide) (stack (rsF m ρ c)) | 17 => sP c 2 (by decide) (stack (rsF m ρ c))
  | ⟨_ + 18, h⟩ => absurd h (Nat.not_lt.2 (Nat.le_add_left _ _))

instance dpay_storable (c : Dev nD) (j : Fin 18) : BI.Storable (upEmb : UEmb _ 𝕄) (dpay m ρ c j) := by
  unfold dpay; fin_cases j <;> infer_instance

/-- One round. A barrier cell has two duties of one unit, `true` paid by the right neighbour, `false` by the left; a transfer
    cell one duty, of the transfer's credit. -/
def talk : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => crd q.val
  payload g _ d := match g.2 with
    | .reg _ => if d = true then barR g.1.1 else barL g.1.1
    | .dma q => if h : 5 ≤ q.val then dpay m ρ g.1.1 ⟨q.val - 5, by have : q.val < 23 := q.isLt; omega⟩ else iprop(emp)
  amount_pos g _ _ _ := by
    rcases g with ⟨_, (_ | q)⟩
    · exact Nat.one_pos
    · exact crd_pos _

instance talk_storable (g : GSem nD τ sig) (r : ℕ) (d : Bool) :
    BI.Storable (upEmb : UEmb _ 𝕄) ((talk (F := F) m ρ).payload g r d) := by
  rcases g with ⟨c, (_ | q)⟩
  · show BI.Storable upEmb (if d = true then barR c.1 else barL c.1)
    unfold barR barL; split <;> infer_instance
  · show BI.Storable upEmb (if h : 5 ≤ q.val then dpay m ρ c.1 ⟨q.val - 5, by have : q.val < 23 := q.isLt; omega⟩ else iprop(emp))
    split <;> infer_instance

section Sched
variable (c : Dev nD)

theorem duties_bar : (talk (F := F) m ρ).duties (barC c) 0 = Finset.univ := rfl
theorem duties_dma (j : Fin 18) : (talk (F := F) m ρ).duties (dmaC c j) 0 = {false} := rfl
theorem duties_later (g : GSem nD τ sig) : ∀ r, 1 ≤ r → (talk (F := F) m ρ).duties g r = ∅ :=
  fun r hr => if_neg fun h => by omega
theorem amount_bar (d : Bool) : (talk (F := F) m ρ).amount (barC c) 0 d = 1 := rfl
theorem amount_dma (j : Fin 18) (d : Bool) : (talk (F := F) m ρ).amount (dmaC c j) 0 d = crd (5 + j.val) := rfl
theorem expect_bar : (talk (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_dma (j : Fin 18) : (talk (F := F) m ρ).expect (dmaC c j) 0 = crd (5 + j.val) := by
  unfold Schedule.expect Schedule.amountOf; rw [duties_dma, Finset.sum_singleton, amount_dma]
theorem payload_true : (talk (F := F) m ρ).payload (barC c) 0 true = barR c := rfl
theorem payload_false : (talk (F := F) m ρ).payload (barC c) 0 false = barL c := rfl
theorem payload_dma (j : Fin 18) (d : Bool) : (talk (F := F) m ρ).payload (dmaC c j) 0 d = dpay m ρ c j := by
  show (if h : 5 ≤ 5 + j.val then dpay m ρ c ⟨5 + j.val - 5, _⟩ else iprop(emp)) = _
  rw [dif_pos (Nat.le_add_right 5 j.val)]
  exact congrArg (dpay m ρ c) (Fin.ext (Nat.add_sub_cancel_left 5 j.val))

/-- The whole of the barrier's round: both neighbours' slots. -/
theorem rest_bar : bigSep ((talk (F := F) m ρ).duties (barC c) 0 \ ∅) (fun d => (talk (F := F) m ρ).payload (barC c) 0 d) = iprop(barL c ∗ barR c) := by
  rw [Finset.sdiff_empty, duties_bar, bigSep_univ_eq_bigSepL [false, true] (by decide) (by decide), bigSepL_cons_cons, bigSepL_singleton,
    payload_false, payload_true]
  rfl
theorem rest_dma (j : Fin 18) : bigSep ((talk (F := F) m ρ).duties (dmaC c j) 0 \ ∅) (fun d => (talk (F := F) m ρ).payload (dmaC c j) 0 d) = dpay m ρ c j := by
  rw [Finset.sdiff_empty, duties_dma, bigSep_singleton, payload_dma]

end Sched

/-! ## What each device owes, and the order of waiting -/

/-- The tallies of a list of units owed, the first paid first. -/
def owe : List (GSem nD τ sig × ℕ) → CellTallies nD τ sig Unit
  | [] => 0
  | x :: l => owe l + tallyAt x.1 () x.2

/-- What device `c` owes at launch, in the order it pays: the two barrier signals, the three hops of tokens and columns to the
    right, the three hops of partial outputs to the left. -/
def dues (c : Dev nD) : List (GSem nD τ sig × ℕ) :=
  [(barC (left c), 1), (barC (right c), 1),
   (dmaC (right c) 3, Nx), (dmaC (right c) 9, Nr), (dmaC (right c) 4, Nx), (dmaC (right c) 10, Nr), (dmaC (right c) 5, Nx), (dmaC (right c) 11, Nr),
   (dmaC (left c) 15, Nx), (dmaC (left c) 16, Nx), (dmaC (left c) 17, Nx)]

abbrev O₀ (c : Dev nD) : CellTallies nD τ sig Unit := owe (dues c)

def L (g : GSem nD τ sig) : Finset Unit := if g.1.2 = .tc then {()} else ∅

/-- The level of a semaphore: the barrier 1, receipts 2 to 7 by hop, everything else 0. -/
def lvs : SemLoc sig → ℕ
  | .reg _ => 1
  | .dma q => if 8 ≤ q.val ∧ q.val < 11 then q.val - 6 else if 14 ≤ q.val ∧ q.val < 17 then q.val - 12 else if 20 ≤ q.val then q.val - 15 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

/-- What is owed under a list is owed on one of its cells. -/
theorem owe_pos {l : List (GSem nD τ sig × ℕ)} {g : GSem nD τ sig} {u : Unit} (h : 0 < owe l g u) : ∃ x ∈ l, g = x.1 := by
  induction l with
  | nil => exact absurd h (Nat.lt_irrefl 0)
  | cons x l ih =>
    have h' : 0 < owe l g u + tallyAt x.1 () x.2 g u := h
    rcases Nat.eq_zero_or_pos (tallyAt x.1 () x.2 g u) with h0 | h0
    · rw [h0, Nat.add_zero] at h'
      obtain ⟨y, hy, e⟩ := ih h'
      exact ⟨y, List.mem_cons_of_mem _ hy, e⟩
    · exact ⟨x, List.mem_cons_self, (Pipeline.tallyAt_pos h0).1⟩

/-- A device may wait on a semaphore below everything it owes. -/
theorem mayWait (c : Dev nD) (sm : SemLoc sig) (l : List (GSem nD τ sig × ℕ)) (h : ∀ x ∈ l, x.1.1.2 = .tc ∧ lvs sm < lvs x.1.2) :
    (levAts L lv : sProp 𝕄) ⊢ MayWait (c : Thread nD τ) sm () (owe l) :=
  MayOwe.of_cut (L := L) (lev := lv) (lvs sm) (fun p hp => by rw [Finset.mem_singleton.mp hp, L_tc]; exact Finset.mem_singleton_self _)
    (fun g u hg => by obtain ⟨x, hx, rfl⟩ := owe_pos hg; unfold L; rw [if_pos (h x hx).1]; exact Finset.mem_singleton_self _)
    (fun p hp => by rw [Finset.mem_singleton.mp hp]; exact Nat.le_refl _)
    (fun g u hg => by obtain ⟨x, hx, rfl⟩ := owe_pos hg; exact (h x hx).2)

end Cert.KernelIdealProof

end
-- ==== Proof.KernelIdeal.Steps.lean ====
/-
# The kernel's steps

One rule per kind of step the kernel takes, over the slots of `Talk`: loading a slot, storing one, sending one to a neighbour,
waiting on a transfer semaphore; and the split of each scratch buffer into its slots.
-/
module

public import proofs.«01_k».proof.Proof.KernelIdeal.Talk

@[expose] public section

set_option maxRecDepth 16384

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The slots of the gathered tokens -/

theorem x_set (k : ℕ) (hk : k < 4) : (xgS k hk).view.set = (rect 128 512 k hk).set :=
  (View.set_reshape (v := (xgM.slice (rect 128 512 k hk) (fun _ => rfl)).view) _).trans (View.set_slice_whole cc0_scratch0 _)
theorem x_acc (k : ℕ) (hk : k < 4) : (xgM.access (rect 128 512 k hk)).set = (xgS k hk).view.set :=
  (View.set_reshape (v := (xgM.slice (rect 128 512 k hk) (fun _ => rfl)).view) _).symm
theorem x_read (f : Fin 4 → Vec F S1x128x512 .f32) (k : ℕ) (hk : k < 4) :
    (xgM.access (rect 128 512 k hk)).read (Elt F) (stack f) = f ⟨k, hk⟩ := funext fun z => stack_rect f hk z
/-- What a transfer out of slot `k` reads. -/
theorem x_send (f : Fin 4 → Vec F S1x128x512 .f32) (k : ℕ) (hk : k < 4) (y : S128x512.Idx) :
    (xgS k hk).view.read (Elt F) (stack f) y = f ⟨k, hk⟩ (Shape.reshapeEquiv (squeezes_S1x128x512_S128x512).numel_eq y) :=
  stack_rect f hk _

/-- Loading slot `k`. -/
theorem wp_load_x (c : Dev nD) (k : ℕ) (hk : k < 4) (f : Fin 4 → Vec F S1x128x512 .f32) {α : Type} {Q : α → sProp 𝕄}
    {hl : xgM.view.LoadsAt (rect 128 512 k hk).toLoadRect} {kk : Vec F S1x128x512 .f32 → Prog (TpuEff nD τ sig (Elt F) Λ₀ .tc) α} :
    xP c k hk (stack f)
      ⊢ iprop((xP c k hk (stack f) -∗ wp frame (wpE (defs₀ (F := F)) 𝒱₀ (c : Thread nD τ) none) Set.univ (kk (f ⟨k, hk⟩)) Q)
          -∗ wp frame (wpE (defs₀ (F := F)) 𝒱₀ (c : Thread nD τ) none) Set.univ (.op (.load xgM (rect 128 512 k hk).toLoadRect hl) kk) Q) := by
  have h := wp_load_rect (defs := defs₀ (F := F)) (Q := Q) 𝒱₀ (c : Thread nD τ) none (Γ := .empty) Set.univ (m := xgM) (r := rect 128 512 k hk) (hl := hl) (k := kk) (q := fullShare)
    (S := (xgS k hk).view.set) (f := stack f) (Finset.subset_of_eq (x_acc k hk))
  rw [x_read] at h
  exact h
/-- Loading slot `k` at any contents, the value going unused. -/
theorem wp_skip_x (c : Dev nD) (k : ℕ) (hk : k < 4) (g : Buf (Elt F) (xgM.view.loc (c : Thread nD τ))) {α : Type} {Q : α → sProp 𝕄}
    {hl : xgM.view.LoadsAt (rect 128 512 k hk).toLoadRect} {p : Prog (TpuEff nD τ sig (Elt F) Λ₀ .tc) α} :
    xP c k hk g
      ⊢ iprop((xP c k hk g -∗ wp frame (wpE (defs₀ (F := F)) 𝒱₀ (c : Thread nD τ) none) Set.univ p Q)
          -∗ wp frame (wpE (defs₀ (F := F)) 𝒱₀ (c : Thread nD τ) none) Set.univ (.op (.load xgM (rect 128 512 k hk).toLoadRect hl) fun _ => p) Q) :=
  wp_load_rect (defs := defs₀ (F := F)) (Q := Q) 𝒱₀ (c : Thread nD τ) none (Γ := .empty) Set.univ (m := xgM) (r := rect 128 512 k hk) (hl := hl) (k := fun _ => p) (q := fullShare)
    (S := (xgS k hk).view.set) (f := g) (Finset.subset_of_eq (x_acc k hk))
theorem x_stored (c : Dev nD) (k : ℕ) (hk : k < 4) (g : Buf (Elt F) (xgM.view.loc (c : Thread nD τ))) (f : Fin 4 → Vec F S1x128x512 .f32)
    (w : Vec F S1x128x512 .f32) (hw : w = f ⟨k, hk⟩) :
    (xgM.view.loc (c : Thread nD τ) ↦[(xgS k hk).view.set]{fullShare} (xgM.access (rect 128 512 k hk)).write (Elt F) g w Finset.univ : sProp 𝕄)
      = xP c k hk (stack f) :=
  pointsTo_congr fun i hi =>
    landed (xgM.access (rect 128 512 k hk)) g (stack f) w (hw.trans (x_read f k hk).symm) i (Eq.mpr (congrArg (i ∈ ·) (x_acc k hk)) hi)
/-- Storing slot `k`. -/
theorem wp_store_x (c : Dev nD) (k : ℕ) (hk : k < 4) (g : Buf (Elt F) (xgM.view.loc (c : Thread nD τ))) (f : Fin 4 → Vec F S1x128x512 .f32)
    {w : Vec F S1x128x512 .f32} (hw : w = f ⟨k, hk⟩) {α : Type} {Q : α → sProp 𝕄}
    {hx : (xgM.access (rect 128 512 k hk)).Stores Finset.univ} {hm : _}
    {kk : PUnit → Prog (TpuEff nD τ sig (Elt F) Λ₀ .tc) α} :
    xP c k hk g
      ⊢ iprop((xP c k hk (stack f) -∗ wp frame (wpE (defs₀ (F := F)) 𝒱₀ (c : Thread nD τ) none) Set.univ (kk ⟨⟩) Q)
          -∗ wp frame (wpE (defs₀ (F := F)) 𝒱₀ (c : Thread nD τ) none) Set.univ (.op (.store xgM (rect 128 512 k hk) w Finset.univ hx hm) kk) Q) := by
  rw [← x_stored c k hk g f w hw]
  exact wp_store (defs := defs₀ (F := F)) (Q := Q) 𝒱₀ (c : Thread nD τ) none (Γ := .empty) Set.univ (m := xgM) (r := rect 128 512 k hk) (w := w) (Mk := Finset.univ) (hx := hx) (hm := hm) (k := kk)
    (S := (xgS k hk).view.set) (f := g) (Finset.subset_of_eq (x_acc k hk))

/-- The buffer held whole is its slots, and back. -/
theorem x_split (c : Dev nD) (g : Buf (Elt F) ((c : Thread nD τ).loc cc0_scratch0)) :
    (((c : Thread nD τ).loc cc0_scratch0) ↦{fullShare} g : sProp 𝕄) = bigSep Finset.univ fun k : Fin 4 => xP c k.val k.isLt g := by
  refine (Ring.pointsTo_blocks (fun k : Fin 4 => (rect 128 512 k.val k.isLt).set) rect_disjoint rect_cover g).trans (bigSep_congr fun k _ => ?_)
  unfold xP; rw [x_set]
theorem x_split' (c : Dev nD) (g : Buf (Elt F) ((c : Thread nD τ).loc cc0_scratch0)) :
    (((c : Thread nD τ).loc cc0_scratch0) ↦{fullShare} g : sProp 𝕄) = iprop(xP c 0 (by decide) g ∗ xP c 1 (by decide) g ∗ xP c 2 (by decide) g ∗ xP c 3 (by decide) g) := by
  rw [x_split, bigSep_univ_eq_bigSepL [0, 1, 2, 3] (by decide) (by decide)]; rfl

/-! ## The slots of the gathered router columns -/

theorem r_set (k : ℕ) (hk : k < 4) : (rgS k hk).view.set = (rect 512 2 k hk).set :=
  (View.set_reshape (v := (rgM.slice (rect 512 2 k hk) (fun _ => rfl)).view) _).trans (View.set_slice_whole cc0_scratch1 _)
theorem r_acc (k : ℕ) (hk : k < 4) : (rgM.access (rect 512 2 k hk)).set = (rgS k hk).view.set :=
  (View.set_reshape (v := (rgM.slice (rect 512 2 k hk) (fun _ => rfl)).view) _).symm
theorem r_read (f : Fin 4 → Vec F S1x512x2 .f32) (k : ℕ) (hk : k < 4) :
    (rgM.access (rect 512 2 k hk)).read (Elt F) (stack f) = f ⟨k, hk⟩ := funext fun z => stack_rect f hk z
/-- What a transfer out of slot `k` reads. -/
theorem r_send (f : Fin 4 → Vec F S1x512x2 .f32) (k : ℕ) (hk : k < 4) (y : S512x2.Idx) :
    (rgS k hk).view.read (Elt F) (stack f) y = f ⟨k, hk⟩ (Shape.reshapeEquiv (squeezes_S1x512x2_S512x2).numel_eq y) :=
  stack_rect f hk _

/-- Loading slot `k`. -/
theorem wp_load_r (c : Dev nD) (k : ℕ) (hk : k < 4) (f : Fin 4 → Vec F S1x512x2 .f32) {α : Type} {Q : α → sProp 𝕄}
    {hl : rgM.view.LoadsAt (rect 512 2 k hk).toLoadRect} {kk : Vec F S1x512x2 .f32 → Prog (TpuEff nD τ sig (Elt F) Λ₀ .tc) α} :
    rP c k hk (stack f)
      ⊢ iprop((rP c k hk (stack f) -∗ wp frame (wpE (defs₀ (F := F)) 𝒱₀ (c : Thread nD τ) none) Set.univ (kk (f ⟨k, hk⟩)) Q)
          -∗ wp frame (wpE (defs₀ (F := F)) 𝒱₀ (c : Thread nD τ) none) Set.univ (.op (.load rgM (rect 512 2 k hk).toLoadRect hl) kk) Q) := by
  have h := wp_load_rect (defs := defs₀ (F := F)) (Q := Q) 𝒱₀ (c : Thread nD τ) none (Γ := .empty) Set.univ (m := rgM) (r := rect 512 2 k hk) (hl := hl) (k := kk) (q := fullShare)
    (S := (rgS k hk).view.set) (f := stack f) (Finset.subset_of_eq (r_acc k hk))
  rw [r_read] at h
  exact h
/-- Loading slot `k` at any contents, the value going unused. -/
theorem wp_skip_r (c : Dev nD) (k : ℕ) (hk : k < 4) (g : Buf (Elt F) (rgM.view.loc (c : Thread nD τ))) {α : Type} {Q : α → sProp 𝕄}
    {hl : rgM.view.LoadsAt (rect 512 2 k hk).toLoadRect} {p : Prog (TpuEff nD τ sig (Elt F) Λ₀ .tc) α} :
    rP c k hk g
      ⊢ iprop((rP c k hk g -∗ wp frame (wpE (defs₀ (F := F)) 𝒱₀ (c : Thread nD τ) none) Set.univ p Q)
          -∗ wp frame (wpE (defs₀ (F := F)) 𝒱₀ (c : Thread nD τ) none) Set.univ (.op (.load rgM (rect 512 2 k hk).toLoadRect hl) fun _ => p) Q) :=
  wp_load_rect (defs := defs₀ (F := F)) (Q := Q) 𝒱₀ (c : Thread nD τ) none (Γ := .empty) Set.univ (m := rgM) (r := rect 512 2 k hk) (hl := hl) (k := fun _ => p) (q := fullShare)
    (S := (rgS k hk).view.set) (f := g) (Finset.subset_of_eq (r_acc k hk))
theorem r_stored (c : Dev nD) (k : ℕ) (hk : k < 4) (g : Buf (Elt F) (rgM.view.loc (c : Thread nD τ))) (f : Fin 4 → Vec F S1x512x2 .f32)
    (w : Vec F S1x512x2 .f32) (hw : w = f ⟨k, hk⟩) :
    (rgM.view.loc (c : Thread nD τ) ↦[(rgS k hk).view.set]{fullShare} (rgM.access (rect 512 2 k hk)).write (Elt F) g w Finset.univ : sProp 𝕄)
      = rP c k hk (stack f) :=
  pointsTo_congr fun i hi =>
    landed (rgM.access (rect 512 2 k hk)) g (stack f) w (hw.trans (r_read f k hk).symm) i (Eq.mpr (congrArg (i ∈ ·) (r_acc k hk)) hi)
/-- Storing slot `k`. -/
theorem wp_store_r (c : Dev nD) (k : ℕ) (hk : k < 4) (g : Buf (Elt F) (rgM.view.loc (c : Thread nD τ))) (f : Fin 4 → Vec F S1x512x2 .f32)
    {w : Vec F S1x512x2 .f32} (hw : w = f ⟨k, hk⟩) {α : Type} {Q : α → sProp 𝕄}
    {hx : (rgM.access (rect 512 2 k hk)).Stores Finset.univ} {hm : _}
    {kk : PUnit → Prog (TpuEff nD τ sig (Elt F) Λ₀ .tc) α} :
    rP c k hk g
      ⊢ iprop((rP c k hk (stack f) -∗ wp frame (wpE (defs₀ (F := F)) 𝒱₀ (c : Thread nD τ) none) Set.univ (kk ⟨⟩) Q)
          -∗ wp frame (wpE (defs₀ (F := F)) 𝒱₀ (c : Thread nD τ) none) Set.univ (.op (.store rgM (rect 512 2 k hk) w Finset.univ hx hm) kk) Q) := by
  rw [← r_stored c k hk g f w hw]
  exact wp_store (defs := defs₀ (F := F)) (Q := Q) 𝒱₀ (c : Thread nD τ) none (Γ := .empty) Set.univ (m := rgM) (r := rect 512 2 k hk) (w := w) (Mk := Finset.univ) (hx := hx) (hm := hm) (k := kk)
    (S := (rgS k hk).view.set) (f := g) (Finset.subset_of_eq (r_acc k hk))

/-- The buffer held whole is its slots, and back. -/
theorem r_split (c : Dev nD) (g : Buf (Elt F) ((c : Thread nD τ).loc cc0_scratch1)) :
    (((c : Thread nD τ).loc cc0_scratch1) ↦{fullShare} g : sProp 𝕄) = bigSep Finset.univ fun k : Fin 4 => rP c k.val k.isLt g := by
  refine (Ring.pointsTo_blocks (fun k : Fin 4 => (rect 512 2 k.val k.isLt).set) rect_disjoint rect_cover g).trans (bigSep_congr fun k _ => ?_)
  unfold rP; rw [r_set]
theorem r_split' (c : Dev nD) (g : Buf (Elt F) ((c : Thread nD τ).loc cc0_scratch1)) :
    (((c : Thread nD τ).loc cc0_scratch1) ↦{fullShare} g : sProp 𝕄) = iprop(rP c 0 (by decide) g ∗ rP c 1 (by decide) g ∗ rP c 2 (by decide) g ∗ rP c 3 (by decide) g) := by
  rw [r_split, bigSep_univ_eq_bigSepL [0, 1, 2, 3] (by decide) (by decide)]; rfl

/-! ## The slots of the partial outputs -/

theorem a_set (k : ℕ) (hk : k < 4) : (acS k hk).view.set = (rect 128 512 k hk).set :=
  (View.set_reshape (v := (acM.slice (rect 128 512 k hk) (fun _ => rfl)).view) _).trans (View.set_slice_whole cc0_scratch2 _)
theorem a_acc (k : ℕ) (hk : k < 4) : (acM.access (rect 128 512 k hk)).set = (acS k hk).view.set :=
  (View.set_reshape (v := (acM.slice (rect 128 512 k hk) (fun _ => rfl)).view) _).symm
theorem a_read (f : Fin 4 → Vec F S1x128x512 .f32) (k : ℕ) (hk : k < 4) :
    (acM.access (rect 128 512 k hk)).read (Elt F) (stack f) = f ⟨k, hk⟩ := funext fun z => stack_rect f hk z
/-- What a transfer out of slot `k` reads. -/
theorem a_send (f : Fin 4 → Vec F S1x128x512 .f32) (k : ℕ) (hk : k < 4) (y : S128x512.Idx) :
    (acS k hk).view.read (Elt F) (stack f) y = f ⟨k, hk⟩ (Shape.reshapeEquiv (squeezes_S1x128x512_S128x512).numel_eq y) :=
  stack_rect f hk _

/-- Loading slot `k`. -/
theorem wp_load_a (c : Dev nD) (k : ℕ) (hk : k < 4) (f : Fin 4 → Vec F S1x128x512 .f32) {α : Type} {Q : α → sProp 𝕄}
    {hl : acM.view.LoadsAt (rect 128 512 k hk).toLoadRect} {kk : Vec F S1x128x512 .f32 → Prog (TpuEff nD τ sig (Elt F) Λ₀ .tc) α} :
    aP c k hk (stack f)
      ⊢ iprop((aP c k hk (stack f) -∗ wp frame (wpE (defs₀ (F := F)) 𝒱₀ (c : Thread nD τ) none) Set.univ (kk (f ⟨k, hk⟩)) Q)
          -∗ wp frame (wpE (defs₀ (F := F)) 𝒱₀ (c : Thread nD τ) none) Set.univ (.op (.load acM (rect 128 512 k hk).toLoadRect hl) kk) Q) := by
  have h := wp_load_rect (defs := defs₀ (F := F)) (Q := Q) 𝒱₀ (c : Thread nD τ) none (Γ := .empty) Set.univ (m := acM) (r := rect 128 512 k hk) (hl := hl) (k := kk) (q := fullShare)
    (S := (acS k hk).view.set) (f := stack f) (Finset.subset_of_eq (a_acc k hk))
  rw [a_read] at h
  exact h
/-- Loading slot `k` at any contents, the value going unused. -/
theorem wp_skip_a (c : Dev nD) (k : ℕ) (hk : k < 4) (g : Buf (Elt F) (acM.view.loc (c : Thread nD τ))) {α : Type} {Q : α → sProp 𝕄}
    {hl : acM.view.LoadsAt (rect 128 512 k hk).toLoadRect} {p : Prog (TpuEff nD τ sig (Elt F) Λ₀ .tc) α} :
    aP c k hk g
      ⊢ iprop((aP c k hk g -∗ wp frame (wpE (defs₀ (F := F)) 𝒱₀ (c : Thread nD τ) none) Set.univ p Q)
          -∗ wp frame (wpE (defs₀ (F := F)) 𝒱₀ (c : Thread nD τ) none) Set.univ (.op (.load acM (rect 128 512 k hk).toLoadRect hl) fun _ => p) Q) :=
  wp_load_rect (defs := defs₀ (F := F)) (Q := Q) 𝒱₀ (c : Thread nD τ) none (Γ := .empty) Set.univ (m := acM) (r := rect 128 512 k hk) (hl := hl) (k := fun _ => p) (q := fullShare)
    (S := (acS k hk).view.set) (f := g) (Finset.subset_of_eq (a_acc k hk))
theorem a_stored (c : Dev nD) (k : ℕ) (hk : k < 4) (g : Buf (Elt F) (acM.view.loc (c : Thread nD τ))) (f : Fin 4 → Vec F S1x128x512 .f32)
    (w : Vec F S1x128x512 .f32) (hw : w = f ⟨k, hk⟩) :
    (acM.view.loc (c : Thread nD τ) ↦[(acS k hk).view.set]{fullShare} (acM.access (rect 128 512 k hk)).write (Elt F) g w Finset.univ : sProp 𝕄)
      = aP c k hk (stack f) :=
  pointsTo_congr fun i hi =>
    landed (acM.access (rect 128 512 k hk)) g (stack f) w (hw.trans (a_read f k hk).symm) i (Eq.mpr (congrArg (i ∈ ·) (a_acc k hk)) hi)
/-- Storing slot `k`. -/
theorem wp_store_a (c : Dev nD) (k : ℕ) (hk : k < 4) (g : Buf (Elt F) (acM.view.loc (c : Thread nD τ))) (f : Fin 4 → Vec F S1x128x512 .f32)
    {w : Vec F S1x128x512 .f32} (hw : w = f ⟨k, hk⟩) {α : Type} {Q : α → sProp 𝕄}
    {hx : (acM.access (rect 128 512 k hk)).Stores Finset.univ} {hm : _}
    {kk : PUnit → Prog (TpuEff nD τ sig (Elt F) Λ₀ .tc) α} :
    aP c k hk g
      ⊢ iprop((aP c k hk (stack f) -∗ wp frame (wpE (defs₀ (F := F)) 𝒱₀ (c : Thread nD τ) none) Set.univ (kk ⟨⟩) Q)
          -∗ wp frame (wpE (defs₀ (F := F)) 𝒱₀ (c : Thread nD τ) none) Set.univ (.op (.store acM (rect 128 512 k hk) w Finset.univ hx hm) kk) Q) := by
  rw [← a_stored c k hk g f w hw]
  exact wp_store (defs := defs₀ (F := F)) (Q := Q) 𝒱₀ (c : Thread nD τ) none (Γ := .empty) Set.univ (m := acM) (r := rect 128 512 k hk) (w := w) (Mk := Finset.univ) (hx := hx) (hm := hm) (k := kk)
    (S := (acS k hk).view.set) (f := g) (Finset.subset_of_eq (a_acc k hk))

/-- The buffer held whole is its slots, and back. -/
theorem a_split (c : Dev nD) (g : Buf (Elt F) ((c : Thread nD τ).loc cc0_scratch2)) :
    (((c : Thread nD τ).loc cc0_scratch2) ↦{fullShare} g : sProp 𝕄) = bigSep Finset.univ fun k : Fin 4 => aP c k.val k.isLt g := by
  refine (Ring.pointsTo_blocks (fun k : Fin 4 => (rect 128 512 k.val k.isLt).set) rect_disjoint rect_cover g).trans (bigSep_congr fun k _ => ?_)
  unfold aP; rw [a_set]
theorem a_split' (c : Dev nD) (g : Buf (Elt F) ((c : Thread nD τ).loc cc0_scratch2)) :
    (((c : Thread nD τ).loc cc0_scratch2) ↦{fullShare} g : sProp 𝕄) = iprop(aP c 0 (by decide) g ∗ aP c 1 (by decide) g ∗ aP c 2 (by decide) g ∗ aP c 3 (by decide) g) := by
  rw [a_split, bigSep_univ_eq_bigSepL [0, 1, 2, 3] (by decide) (by decide)]; rfl

/-! ## The slots of the received partial outputs -/

theorem s_set (k : ℕ) (hk : k < 3) : (rsS k hk).view.set = (rect 128 512 k hk).set :=
  (View.set_reshape (v := (rsM.slice (rect 128 512 k hk) (fun _ => rfl)).view) _).trans (View.set_slice_whole cc0_scratch3 _)
theorem s_acc (k : ℕ) (hk : k < 3) : (rsM.access (rect 128 512 k hk)).set = (rsS k hk).view.set :=
  (View.set_reshape (v := (rsM.slice (rect 128 512 k hk) (fun _ => rfl)).view) _).symm
theorem s_read (f : Fin 3 → Vec F S1x128x512 .f32) (k : ℕ) (hk : k < 3) :
    (rsM.access (rect 128 512 k hk)).read (Elt F) (stack f) = f ⟨k, hk⟩ := funext fun z => stack_rect f hk z
/-- What a transfer out of slot `k` reads. -/
theorem s_send (f : Fin 3 → Vec F S1x128x512 .f32) (k : ℕ) (hk : k < 3) (y : S128x512.Idx) :
    (rsS k hk).view.read (Elt F) (stack f) y = f ⟨k, hk⟩ (Shape.reshapeEquiv (squeezes_S1x128x512_S128x512).numel_eq y) :=
  stack_rect f hk _

/-- Loading slot `k`. -/
theorem wp_load_s (c : Dev nD) (k : ℕ) (hk : k < 3) (f : Fin 3 → Vec F S1x128x512 .f32) {α : Type} {Q : α → sProp 𝕄}
    {hl : rsM.view.LoadsAt (rect 128 512 k hk).toLoadRect} {kk : Vec F S1x128x512 .f32 → Prog (TpuEff nD τ sig (Elt F) Λ₀ .tc) α} :
    sP c k hk (stack f)
      ⊢ iprop((sP c k hk (stack f) -∗ wp frame (wpE (defs₀ (F := F)) 𝒱₀ (c : Thread nD τ) none) Set.univ (kk (f ⟨k, hk⟩)) Q)
          -∗ wp frame (wpE (defs₀ (F := F)) 𝒱₀ (c : Thread nD τ) none) Set.univ (.op (.load rsM (rect 128 512 k hk).toLoadRect hl) kk) Q) := by
  have h := wp_load_rect (defs := defs₀ (F := F)) (Q := Q) 𝒱₀ (c : Thread nD τ) none (Γ := .empty) Set.univ (m := rsM) (r := rect 128 512 k hk) (hl := hl) (k := kk) (q := fullShare)
    (S := (rsS k hk).view.set) (f := stack f) (Finset.subset_of_eq (s_acc k hk))
  rw [s_read] at h
  exact h
/-- Loading slot `k` at any contents, the value going unused. -/
theorem wp_skip_s (c : Dev nD) (k : ℕ) (hk : k < 3) (g : Buf (Elt F) (rsM.view.loc (c : Thread nD τ))) {α : Type} {Q : α → sProp 𝕄}
    {hl : rsM.view.LoadsAt (rect 128 512 k hk).toLoadRect} {p : Prog (TpuEff nD τ sig (Elt F) Λ₀ .tc) α} :
    sP c k hk g
      ⊢ iprop((sP c k hk g -∗ wp frame (wpE (defs₀ (F := F)) 𝒱₀ (c : Thread nD τ) none) Set.univ p Q)
          -∗ wp frame (wpE (defs₀ (F := F)) 𝒱₀ (c : Thread nD τ) none) Set.univ (.op (.load rsM (rect 128 512 k hk).toLoadRect hl) fun _ => p) Q) :=
  wp_load_rect (defs := defs₀ (F := F)) (Q := Q) 𝒱₀ (c : Thread nD τ) none (Γ := .empty) Set.univ (m := rsM) (r := rect 128 512 k hk) (hl := hl) (k := fun _ => p) (q := fullShare)
    (S := (rsS k hk).view.set) (f := g) (Finset.subset_of_eq (s_acc k hk))
theorem s_stored (c : Dev nD) (k : ℕ) (hk : k < 3) (g : Buf (Elt F) (rsM.view.loc (c : Thread nD τ))) (f : Fin 3 → Vec F S1x128x512 .f32)
    (w : Vec F S1x128x512 .f32) (hw : w = f ⟨k, hk⟩) :
    (rsM.view.loc (c : Thread nD τ) ↦[(rsS k hk).view.set]{fullShare} (rsM.access (rect 128 512 k hk)).write (Elt F) g w Finset.univ : sProp 𝕄)
      = sP c k hk (stack f) :=
  pointsTo_congr fun i hi =>
    landed (rsM.access (rect 128 512 k hk)) g (stack f) w (hw.trans (s_read f k hk).symm) i (Eq.mpr (congrArg (i ∈ ·) (s_acc k hk)) hi)
/-- Storing slot `k`. -/
theorem wp_store_s (c : Dev nD) (k : ℕ) (hk : k < 3) (g : Buf (Elt F) (rsM.view.loc (c : Thread nD τ))) (f : Fin 3 → Vec F S1x128x512 .f32)
    {w : Vec F S1x128x512 .f32} (hw : w = f ⟨k, hk⟩) {α : Type} {Q : α → sProp 𝕄}
    {hx : (rsM.access (rect 128 512 k hk)).Stores Finset.univ} {hm : _}
    {kk : PUnit → Prog (TpuEff nD τ sig (Elt F) Λ₀ .tc) α} :
    sP c k hk g
      ⊢ iprop((sP c k hk (stack f) -∗ wp frame (wpE (defs₀ (F := F)) 𝒱₀ (c : Thread nD τ) none) Set.univ (kk ⟨⟩) Q)
          -∗ wp frame (wpE (defs₀ (F := F)) 𝒱₀ (c : Thread nD τ) none) Set.univ (.op (.store rsM (rect 128 512 k hk) w Finset.univ hx hm) kk) Q) := by
  rw [← s_stored c k hk g f w hw]
  exact wp_store (defs := defs₀ (F := F)) (Q := Q) 𝒱₀ (c : Thread nD τ) none (Γ := .empty) Set.univ (m := rsM) (r := rect 128 512 k hk) (w := w) (Mk := Finset.univ) (hx := hx) (hm := hm) (k := kk)
    (S := (rsS k hk).view.set) (f := g) (Finset.subset_of_eq (s_acc k hk))

/-- The buffer held whole is its slots, and back. -/
theorem s_split (c : Dev nD) (g : Buf (Elt F) ((c : Thread nD τ).loc cc0_scratch3)) :
    (((c : Thread nD τ).loc cc0_scratch3) ↦{fullShare} g : sProp 𝕄) = bigSep Finset.univ fun k : Fin 3 => sP c k.val k.isLt g := by
  refine (Ring.pointsTo_blocks (fun k : Fin 3 => (rect 128 512 k.val k.isLt).set) rect_disjoint rect_cover g).trans (bigSep_congr fun k _ => ?_)
  unfold sP; rw [s_set]
theorem s_split' (c : Dev nD) (g : Buf (Elt F) ((c : Thread nD τ).loc cc0_scratch3)) :
    (((c : Thread nD τ).loc cc0_scratch3) ↦{fullShare} g : sProp 𝕄) = iprop(sP c 0 (by decide) g ∗ sP c 1 (by decide) g ∗ sP c 2 (by decide) g) := by
  rw [s_split, bigSep_univ_eq_bigSepL [0, 1, 2] (by decide) (by decide)]; rfl

/-! ## Every cell's invariant -/

set_option backward.proofsInPublic true in
/-- The nineteen semaphores: the barrier and the eighteen transfers'. -/
abbrev csem : Fin 19 → SemLoc sig := Fin.cases (.reg barS) fun j => .dma (dmaS j)
abbrev kcell (ck : Dev nD × Fin 19) : GSem nD τ sig := ((ck.1 : Thread nD τ), csem ck.2)

/-- Every cell's invariant, under the names `K`, and that round 0 of every cell is reached. -/
def ctx (K : Dev nD × Fin 19 → ℕ) : sProp 𝕄 :=
  iprop((bigSep Finset.univ fun ck : Dev nD × Fin 19 => cellInv ER (talk m ρ) (K ck) (kcell ck))
    ∗ bigSep Finset.univ fun ck : Dev nD × Fin 19 => reached ER (kcell ck) 0)

instance ctx_persistent (K : Dev nD × Fin 19 → ℕ) : BI.Persistent (ctx m ρ K) := by unfold ctx; infer_instance

variable (K : Dev nD × Fin 19 → ℕ)

theorem ctx_cell (ck : Dev nD × Fin 19) : ctx m ρ K ⊢ cellInv ER (talk m ρ) (K ck) (kcell ck) := by
  unfold ctx; exact sep_elim_left.trans (bigSep_elim (Φ := fun ck : Dev nD × Fin 19 => (cellInv ER (talk m ρ) (K ck) (kcell ck) : sProp 𝕄)) (Finset.mem_univ ck))
theorem ctx_reached (ck : Dev nD × Fin 19) : ctx m ρ K ⊢ reached ER (kcell ck) 0 := by
  unfold ctx; exact sep_elim_right.trans (bigSep_elim (Φ := fun ck : Dev nD × Fin 19 => (reached ER (kcell ck) 0 : sProp 𝕄)) (Finset.mem_univ ck))
theorem ctx_dma (c : Dev nD) (j : Fin 18) : ctx m ρ K ⊢ cellInv ER (talk m ρ) (K (c, j.succ)) (dmaC c j) := ctx_cell m ρ K (c, j.succ)
theorem ctx_bar (c : Dev nD) : ctx m ρ K ⊢ cellInv ER (talk m ρ) (K (c, 0)) (barC c) := ctx_cell m ρ K (c, 0)
theorem ctx_rdma (c : Dev nD) (j : Fin 18) : ctx m ρ K ⊢ reached ER (dmaC c j) 0 := ctx_reached m ρ K (c, j.succ)
theorem ctx_rbar (c : Dev nD) : ctx m ρ K ⊢ reached ER (barC c) 0 := ctx_reached m ρ K (c, 0)

/-- Device `c` owes the units of `l` and nothing else. -/
def ow (c : Dev nD) (l : List (GSem nD τ sig × ℕ)) : sProp 𝕄 := iprop(∃ W, owes (c : Thread nD τ) (owe l) W)

/-! ## Signals, transfers, waits -/

theorem bar_pay (n : Dev nD) (d : Bool) : (if d = true then barR n else barL n : sProp 𝕄) = (talk m ρ).payload (barC n) 0 d := by
  cases d
  · exact (if_neg (by decide)).trans (payload_false m ρ n).symm
  · exact (if_pos rfl).trans (payload_true m ρ n).symm

/-- A barrier signal to device `n'`, the next unit owed: it hands over what the duty's payload says. -/
theorem wp_ring (c n n' : Dev nD) (hn : n = n') (d : Bool) {l : List (GSem nD τ sig × ℕ)} {α : Type} {Q : α → sProp 𝕄}
    {kk : PUnit → Prog (TpuEff nD τ sig (Elt F) Λ₀ .tc) α} :
    iprop(ctx m ρ K ∗ ow c ((barC n', 1) :: l) ∗ dutyTok ER (barC n') 0 d ∗ (if d = true then barR n' else barL n'))
      ⊢ iprop((ow c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS 1) kk) Q) := by
  subst hn
  unfold ow
  iintro ⟨#HC, ⟨%W, HO⟩, Ht, Hp⟩ Hk
  iapply (Rounds.wp_signal 𝒱₀ ER (talk m ρ) (c : Thread nD τ) none (dst := (n : Thread nD τ)) (κ := K (n, 0))
      (d := d) (by rw [duties_bar]; exact Finset.mem_univ _) (amount_bar m ρ n d) () (owe l) rfl) $$ [HO Ht Hp]
  · isplitr; · iapply (ctx_bar m ρ K n); iexact HC
    isplitl [HO]; · iexact HO
    isplitl [Ht]; · iexact Ht
    isplitl [Hp]; · iapply (Entails.of_eq (bar_pay m ρ n d)); iexact Hp
    iapply (ctx_rbar m ρ K n); iexact HC
  iintro HO
  iapply Hk; iexists W; iexact HO

/-- A transfer to device `n'`, the next unit owed, between a slot of `c`'s and one of `n'`'s. -/
theorem wp_push (c n n' : Dev nD) (hn : n = n') {s : Shape} {src : Memref sig .tc .vmem s .f32} {dst : Memref sig (Dev.tc n : Thread nD τ).2.kind .vmem s .f32}
    (j₁ j₂ : Fin 18) (N : ℕ) (h₁ : crd (5 + j₁.val) = N) (h₂ : crd (5 + j₂.val) = N) (hN : dst.view.amount (.dma (dmaS j₂)) = N)
    {hsc : dst.view.ref.isScScratch = false} {hsrc : src.view.WordExact} {hdst : dst.view.WordExact}
    {hsem : DmaTarget.Typed .vmem (.dma (dmaS j₂)) (.remote (Dev.tc n : Thread nD τ) dst (.dma (dmaS j₁)) hsc)}
    {l : List (GSem nD τ sig × ℕ)} (fs : Buf (Elt F) (src.view.loc (c : Thread nD τ))) (fd : Buf (Elt F) (dst.view.loc (n : Thread nD τ)))
    (hp₁ : (src.view.loc (c : Thread nD τ) ↦[src.view.set]{fullShare} fs) ⊢ dpay m ρ c j₁)
    (hp₂ : (dst.view.loc (n : Thread nD τ) ↦[dst.view.set]{fullShare} (dst.view.write (Elt F) fd (src.view.read (Elt F) fs) Finset.univ)) ⊢ dpay m ρ n j₂)
    {α : Type} {Q : α → sProp 𝕄} {kk : PUnit → Prog (TpuEff nD τ sig (Elt F) Λ₀ .tc) α} :
    iprop(ctx m ρ K ∗ ow c ((dmaC n' j₂, N) :: l) ∗ (src.view.loc (c : Thread nD τ) ↦[src.view.set]{fullShare} fs)
        ∗ (dst.view.loc (n : Thread nD τ) ↦[dst.view.set]{fullShare} fd) ∗ dutyTok ER (dmaC c j₁) 0 false ∗ dutyTok ER (dmaC n' j₂) 0 false)
      ⊢ iprop(((cred (tallyAt (dmaC c j₁) () N) ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma (dmaS j₁)) hsc) (.dma (dmaS j₂)) hsrc hdst hsem) kk) Q) := by
  subst hn
  unfold ow
  iintro ⟨#HC, ⟨%W, HO⟩, Hs, Hd, Ht₁, Ht₂⟩ Hk
  iapply (Rounds.wp_send_pointsTo 𝒱₀ ER (talk m ρ) (c : Thread nD τ) none (κ₁ := K (c, j₁.succ)) (κ₂ := K (n, j₂.succ))
    (r₁ := 0) (r₂ := 0) (d₁ := false) (d₂ := false) (fd := fd)
    (by rw [duties_dma]; exact Finset.mem_singleton_self _) (by rw [duties_dma]; exact Finset.mem_singleton_self _)
    () () N hN ((amount_dma m ρ c j₁ false).trans h₁) ((amount_dma m ρ n j₂ false).trans h₂) (owe l) rfl (W := W)
    (by rw [payload_dma]; exact hp₁) (by rw [payload_dma]; exact hp₂)) $$ [HO Hs Hd Ht₁ Ht₂]
  · isplitr; · iapply (ctx_dma m ρ K c j₁); iexact HC
    isplitr; · iapply (ctx_dma m ρ K n j₂); iexact HC
    isplitl [Hs]; · iexact Hs
    isplitl [Hd]; · iexact Hd
    isplitl [HO]; · iexact HO
    isplitl [Ht₁]; · iexact Ht₁
    isplitr; · iapply (ctx_rdma m ρ K c j₁); iexact HC
    isplitl [Ht₂]; · iexact Ht₂
    iapply (ctx_rdma m ρ K n j₂); iexact HC
  iintro ⟨Hc, HO⟩
  iapply Hk; isplitl [Hc]; · iexact Hc
  iexists W; iexact HO

/-- Everything in the list is owed on a TensorCore's cell of level above `n`. -/
def above (n : ℕ) (l : List (GSem nD τ sig × ℕ)) : Bool := l.all fun x => decide (x.1.1.2 = .tc ∧ n < lvs x.1.2)
theorem of_above {n : ℕ} {l : List (GSem nD τ sig × ℕ)} (h : above n l = true) : ∀ x ∈ l, x.1.1.2 = .tc ∧ n < lvs x.1.2 :=
  fun x hx => of_decide_eq_true (List.all_eq_true.1 h x hx)

/-- The wait on transfer semaphore `j`, everything still owed above it: the payload comes back and the cell closes. -/
theorem wp_take (c : Dev nD) (j : Fin 18) {s : Shape} (src dst : Memref sig .tc .vmem s .f32) (N : ℕ) (h : crd (5 + j.val) = N) (hN : dst.view.dmaCredit = N)
    {l : List (GSem nD τ sig × ℕ)} (hl : above (lvs (.dma (dmaS j))) l = true)
    {hsrc : src.view.WordExact} {hdst : dst.view.WordExact}
    {α : Type} {Q : α → sProp 𝕄} {kk : PUnit → Prog (TpuEff nD τ sig (Elt F) Λ₀ .tc) α} :
    iprop(ctx m ρ K ∗ levAts L lv ∗ cred (tallyAt (dmaC c j) () N) ∗ ow c l ∗ atPos ER (dmaC c j) 0 ∅ 0)
      ⊢ iprop(((ow c l ∗ semVal (dmaC c j) 0 ∗ dpay m ρ c j) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dmaS j) src dst hsrc hdst) kk) Q) := by
  subst hN
  unfold ow
  iintro ⟨#HC, #HL, Hc, ⟨%W, HO⟩, Hat⟩ Hk
  iapply (Rounds.wp_wait_rest_token 𝒱₀ ER (talk m ρ) (c : Thread nD τ) none (κ := K (c, j.succ))
      (wpE_waitDma2_eq 𝒱₀ (c : Thread nD τ) none Set.univ) (Set.mem_univ _) () (O := owe l) (W := W) (R := 0) (m := 0) (T := ∅)
      (by rw [Nat.zero_add, expect_dma, h])) $$ [Hc HO Hat]
  · isplitr; · iapply (ctx_dma m ρ K c j); iexact HC
    isplitl [Hc]; · iexact Hc
    isplitl [HO]; · iexact HO
    isplitr; · iapply (mayWait (F := F) c (.dma (dmaS j)) l (of_above hl)); iexact HL
    iexact Hat
  iintro ⟨HO, Hat, -, Hpay⟩
  ihave Hp := (Entails.of_eq (rest_dma m ρ c j)) $$ Hpay
  imod (Rounds.cell_close ER (talk m ρ) (Set.mem_univ (K (c, j.succ))) (fun h => h) (R := 0 + 1) (duties_later m ρ (dmaC c j))) $$ [Hat] with Hz
  · isplitr; · iapply (ctx_dma m ρ K c j); iexact HC
    iexact Hat
  iapply Hk
  isplitl [HO]; · iexists _; iexact HO
  isplitl [Hz]; · iexact Hz
  iexact Hp

/-- The wait for both neighbours' barrier signals: their slots come with it, and the barrier's cell closes. -/
theorem wp_meet (c : Dev nD) {l : List (GSem nD τ sig × ℕ)} (hl : above (lvs (.reg barS)) l = true)
    {α : Type} {Q : α → sProp 𝕄} {kk : PUnit → Prog (TpuEff nD τ sig (Elt F) Λ₀ .tc) α} :
    iprop(ctx m ρ K ∗ levAts L lv ∗ cred (tallyAt (barC c) () 2) ∗ ow c l ∗ atPos ER (barC c) 0 ∅ 0)
      ⊢ iprop(((ow c l ∗ semVal (barC c) 0 ∗ barL c ∗ barR c) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 2) kk) Q) := by
  unfold ow
  iintro ⟨#HC, #HL, Hc, ⟨%W, HO⟩, Hat⟩ Hk
  iapply (Rounds.wp_wait_rest_token 𝒱₀ ER (talk m ρ) (c : Thread nD τ) none (κ := K (c, 0))
      (wpE_semWait_eq 𝒱₀ (c : Thread nD τ) none Set.univ) (Set.mem_univ _) () (O := owe l) (W := W) (R := 0) (m := 0) (T := ∅)
      (by rw [Nat.zero_add, expect_bar])) $$ [Hc HO Hat]
  · isplitr; · iapply (ctx_bar m ρ K c); iexact HC
    isplitl [Hc]; · iexact Hc
    isplitl [HO]; · iexact HO
    isplitr; · iapply (mayWait (F := F) c (.reg barS) l (of_above hl)); iexact HL
    iexact Hat
  iintro ⟨HO, Hat, -, Hpay⟩
  ihave Hp := (Entails.of_eq (rest_bar m ρ c)) $$ Hpay
  imod (Rounds.cell_close ER (talk m ρ) (Set.mem_univ (K (c, 0))) (fun h => h) (R := 0 + 1) (duties_later m ρ (barC c))) $$ [Hat] with Hz
  · isplitr; · iapply (ctx_bar m ρ K c); iexact HC
    iexact Hat
  iapply Hk
  isplitl [HO]; · iexists _; iexact HO
  isplitl [Hz]; · iexact Hz
  iexact Hp

/-! ## Sending a slot -/

theorem x_land (n c : Dev nD) (k j : ℕ) (hk : k < 4) (hj : j < 4) (f : Fin 4 → Vec F S1x128x512 .f32) (g : Fin 4 → Vec F S1x128x512 .f32) (h : f ⟨k, hk⟩ = g ⟨j, hj⟩)
    (fd : Buf (Elt F) ((xgS j hj).view.loc (n : Thread nD τ))) :
    ((xgS j hj).view.loc (n : Thread nD τ) ↦[(xgS j hj).view.set]{fullShare}
        ((xgS j hj).view.write (Elt F) fd ((xgS k hk).view.read (Elt F) (stack f)) Finset.univ) : sProp 𝕄) = xP n j hj (stack g) :=
  pointsTo_congr (landed (xgS j hj).view fd (stack g) _ (funext fun y => ((x_send f k hk y).trans (congrFun h _)).trans (x_send g j hj y).symm))
/-- Sending slot `k` of it into slot `j` on device `n'`. -/
theorem push_x (c n n' : Dev nD) (hn : n = n') (k j : ℕ) (hk : k < 4) (hj : j < 4) (j₁ j₂ : Fin 18)
    (hf : xgF m ρ c ⟨k, hk⟩ = xgF m ρ n' ⟨j, hj⟩) (h₁ : crd (5 + j₁.val) = Nx) (h₂ : crd (5 + j₂.val) = Nx)
    (hN : (xgS j hj).view.dmaCredit = Nx)
    (hd₁ : dpay m ρ c j₁ = xP c k hk (stack (xgF m ρ c))) (hd₂ : dpay m ρ n' j₂ = xP n' j hj (stack (xgF m ρ n')))
    {hsc : (xgS j hj).view.ref.isScScratch = false} {hsrc : (xgS k hk).view.WordExact} {hdst : (xgS j hj).view.WordExact}
    {hsem : DmaTarget.Typed .vmem (.dma (dmaS j₂)) (.remote (Dev.tc n : Thread nD τ) (xgS j hj) (.dma (dmaS j₁)) hsc)}
    {l : List (GSem nD τ sig × ℕ)} {α : Type} {Q : α → sProp 𝕄} {kk : PUnit → Prog (TpuEff nD τ sig (Elt F) Λ₀ .tc) α} :
    iprop(ctx m ρ K ∗ ow c ((dmaC n' j₂, Nx) :: l) ∗ xP c k hk (stack (xgF m ρ c)) ∗ (∃ g, xP n' j hj g)
        ∗ dutyTok ER (dmaC c j₁) 0 false ∗ dutyTok ER (dmaC n' j₂) 0 false)
      ⊢ iprop(((cred (tallyAt (dmaC c j₁) () Nx) ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xgS k hk) (.remote (Dev.tc n : Thread nD τ) (xgS j hj) (.dma (dmaS j₁)) hsc) (.dma (dmaS j₂)) hsrc hdst hsem) kk) Q) := by
  subst hn
  iintro ⟨#HC, HO, Hs, ⟨%g, Hd⟩, Ht₁, Ht₂⟩ Hk
  iapply (wp_push m ρ K c n n rfl (src := xgS k hk) (dst := xgS j hj) j₁ j₂ Nx h₁ h₂ hN (stack (xgF m ρ c)) g
    (Entails.of_eq hd₁.symm) (Entails.of_eq ((x_land n c k j hk hj _ _ hf g).trans hd₂.symm))) $$ [HO Hs Hd Ht₁ Ht₂]
  · isplitr; · iexact HC
    isplitl [HO]; · iexact HO
    isplitl [Hs]; · unfold xP; iexact Hs
    isplitl [Hd]; · unfold xP; iexact Hd
    isplitl [Ht₁] <;> iassumption
  iexact Hk

theorem r_land (n c : Dev nD) (k j : ℕ) (hk : k < 4) (hj : j < 4) (f : Fin 4 → Vec F S1x512x2 .f32) (g : Fin 4 → Vec F S1x512x2 .f32) (h : f ⟨k, hk⟩ = g ⟨j, hj⟩)
    (fd : Buf (Elt F) ((rgS j hj).view.loc (n : Thread nD τ))) :
    ((rgS j hj).view.loc (n : Thread nD τ) ↦[(rgS j hj).view.set]{fullShare}
        ((rgS j hj).view.write (Elt F) fd ((rgS k hk).view.read (Elt F) (stack f)) Finset.univ) : sProp 𝕄) = rP n j hj (stack g) :=
  pointsTo_congr (landed (rgS j hj).view fd (stack g) _ (funext fun y => ((r_send f k hk y).trans (congrFun h _)).trans (r_send g j hj y).symm))
/-- Sending slot `k` of it into slot `j` on device `n'`. -/
theorem push_r (c n n' : Dev nD) (hn : n = n') (k j : ℕ) (hk : k < 4) (hj : j < 4) (j₁ j₂ : Fin 18)
    (hf : rgF m ρ c ⟨k, hk⟩ = rgF m ρ n' ⟨j, hj⟩) (h₁ : crd (5 + j₁.val) = Nr) (h₂ : crd (5 + j₂.val) = Nr)
    (hN : (rgS j hj).view.dmaCredit = Nr)
    (hd₁ : dpay m ρ c j₁ = rP c k hk (stack (rgF m ρ c))) (hd₂ : dpay m ρ n' j₂ = rP n' j hj (stack (rgF m ρ n')))
    {hsc : (rgS j hj).view.ref.isScScratch = false} {hsrc : (rgS k hk).view.WordExact} {hdst : (rgS j hj).view.WordExact}
    {hsem : DmaTarget.Typed .vmem (.dma (dmaS j₂)) (.remote (Dev.tc n : Thread nD τ) (rgS j hj) (.dma (dmaS j₁)) hsc)}
    {l : List (GSem nD τ sig × ℕ)} {α : Type} {Q : α → sProp 𝕄} {kk : PUnit → Prog (TpuEff nD τ sig (Elt F) Λ₀ .tc) α} :
    iprop(ctx m ρ K ∗ ow c ((dmaC n' j₂, Nr) :: l) ∗ rP c k hk (stack (rgF m ρ c)) ∗ (∃ g, rP n' j hj g)
        ∗ dutyTok ER (dmaC c j₁) 0 false ∗ dutyTok ER (dmaC n' j₂) 0 false)
      ⊢ iprop(((cred (tallyAt (dmaC c j₁) () Nr) ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rgS k hk) (.remote (Dev.tc n : Thread nD τ) (rgS j hj) (.dma (dmaS j₁)) hsc) (.dma (dmaS j₂)) hsrc hdst hsem) kk) Q) := by
  subst hn
  iintro ⟨#HC, HO, Hs, ⟨%g, Hd⟩, Ht₁, Ht₂⟩ Hk
  iapply (wp_push m ρ K c n n rfl (src := rgS k hk) (dst := rgS j hj) j₁ j₂ Nr h₁ h₂ hN (stack (rgF m ρ c)) g
    (Entails.of_eq hd₁.symm) (Entails.of_eq ((r_land n c k j hk hj _ _ hf g).trans hd₂.symm))) $$ [HO Hs Hd Ht₁ Ht₂]
  · isplitr; · iexact HC
    isplitl [HO]; · iexact HO
    isplitl [Hs]; · unfold rP; iexact Hs
    isplitl [Hd]; · unfold rP; iexact Hd
    isplitl [Ht₁] <;> iassumption
  iexact Hk

theorem a_land (n c : Dev nD) (k j : ℕ) (hk : k < 4) (hj : j < 3) (f : Fin 4 → Vec F S1x128x512 .f32) (g : Fin 3 → Vec F S1x128x512 .f32) (h : f ⟨k, hk⟩ = g ⟨j, hj⟩)
    (fd : Buf (Elt F) ((rsS j hj).view.loc (n : Thread nD τ))) :
    ((rsS j hj).view.loc (n : Thread nD τ) ↦[(rsS j hj).view.set]{fullShare}
        ((rsS j hj).view.write (Elt F) fd ((acS k hk).view.read (Elt F) (stack f)) Finset.univ) : sProp 𝕄) = sP n j hj (stack g) :=
  pointsTo_congr (landed (rsS j hj).view fd (stack g) _ (funext fun y => ((a_send f k hk y).trans (congrFun h _)).trans (s_send g j hj y).symm))
/-- Sending slot `k` of it into slot `j` on device `n'`. -/
theorem push_a (c n n' : Dev nD) (hn : n = n') (k j : ℕ) (hk : k < 4) (hj : j < 3) (j₁ j₂ : Fin 18)
    (hf : acF m ρ c ⟨k, hk⟩ = rsF m ρ n' ⟨j, hj⟩) (h₁ : crd (5 + j₁.val) = Nx) (h₂ : crd (5 + j₂.val) = Nx)
    (hN : (rsS j hj).view.dmaCredit = Nx)
    (hd₁ : dpay m ρ c j₁ = aP c k hk (stack (acF m ρ c))) (hd₂ : dpay m ρ n' j₂ = sP n' j hj (stack (rsF m ρ n')))
    {hsc : (rsS j hj).view.ref.isScScratch = false} {hsrc : (acS k hk).view.WordExact} {hdst : (rsS j hj).view.WordExact}
    {hsem : DmaTarget.Typed .vmem (.dma (dmaS j₂)) (.remote (Dev.tc n : Thread nD τ) (rsS j hj) (.dma (dmaS j₁)) hsc)}
    {l : List (GSem nD τ sig × ℕ)} {α : Type} {Q : α → sProp 𝕄} {kk : PUnit → Prog (TpuEff nD τ sig (Elt F) Λ₀ .tc) α} :
    iprop(ctx m ρ K ∗ ow c ((dmaC n' j₂, Nx) :: l) ∗ aP c k hk (stack (acF m ρ c)) ∗ (∃ g, sP n' j hj g)
        ∗ dutyTok ER (dmaC c j₁) 0 false ∗ dutyTok ER (dmaC n' j₂) 0 false)
      ⊢ iprop(((cred (tallyAt (dmaC c j₁) () Nx) ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (acS k hk) (.remote (Dev.tc n : Thread nD τ) (rsS j hj) (.dma (dmaS j₁)) hsc) (.dma (dmaS j₂)) hsrc hdst hsem) kk) Q) := by
  subst hn
  iintro ⟨#HC, HO, Hs, ⟨%g, Hd⟩, Ht₁, Ht₂⟩ Hk
  iapply (wp_push m ρ K c n n rfl (src := acS k hk) (dst := rsS j hj) j₁ j₂ Nx h₁ h₂ hN (stack (acF m ρ c)) g
    (Entails.of_eq hd₁.symm) (Entails.of_eq ((a_land n c k j hk hj _ _ hf g).trans hd₂.symm))) $$ [HO Hs Hd Ht₁ Ht₂]
  · isplitr; · iexact HC
    isplitl [HO]; · iexact HO
    isplitl [Hs]; · unfold aP; iexact Hs
    isplitl [Hd]; · unfold sP; iexact Hd
    isplitl [Ht₁] <;> iassumption
  iexact Hk

end Cert.KernelIdealProof

end
-- ==== Proof.KernelIdeal.Body.lean ====
/-
# One device's run of the kernel

What a device starts with, what it ends with, and the run between: one rule of `Steps` per effect, in the program's order.
-/
module

public import proofs.«01_k».proof.Proof.KernelIdeal.Steps
public import proofs.«01_k».proof.Proof.Gen.KernelIdeal.Points
public import Mathlib.Tactic.IntervalCases

@[expose] public section

set_option maxRecDepth 16384

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts and ends with -/

set_option backward.proofsInPublic true in
/-- Whose cell transfer semaphore `j`'s duty of device `c`'s is on: its own for what it sends, the neighbour's for what arrives there. -/
def tgt (c : Dev nD) (j : Fin 18) : Dev nD := if j.val / 3 % 2 = 0 then c else if j.val < 12 then right c else left c

def ats (c : Dev nD) : sProp 𝕄 := bigSep Finset.univ fun j : Fin 18 => atPos ER (dmaC c j) 0 ∅ 0
def toks (c : Dev nD) : sProp 𝕄 := bigSep Finset.univ fun j : Fin 18 => dutyTok ER (dmaC (tgt c j) j) 0 false
def zeros (c : Dev nD) : sProp 𝕄 := bigSep Finset.univ fun j : Fin 18 => semVal (dmaC c j) 0

/-- The ghost of device `c`: the invariants, its positions, the duties it pays. -/
def ghost (K : Dev nD × Fin 19 → ℕ) (c : Dev nD) : sProp 𝕄 :=
  iprop(ctx m ρ K ∗ atPos ER (barC c) 0 ∅ 0 ∗ ats c ∗ dutyTok ER (barC (left c)) 0 true ∗ dutyTok ER (barC (right c)) 0 false ∗ toks c)

/-- What it may wait for: both barrier units and the nine receipts. -/
def creds (c : Dev nD) : sProp 𝕄 :=
  iprop(cred (tallyAt (barC c) () 2) ∗ cred (tallyAt (dmaC c 3) () Nx) ∗ cred (tallyAt (dmaC c 9) () Nr) ∗ cred (tallyAt (dmaC c 4) () Nx)
    ∗ cred (tallyAt (dmaC c 10) () Nr) ∗ cred (tallyAt (dmaC c 5) () Nx) ∗ cred (tallyAt (dmaC c 11) () Nr)
    ∗ cred (tallyAt (dmaC c 15) () Nx) ∗ cred (tallyAt (dmaC c 16) () Nx) ∗ cred (tallyAt (dmaC c 17) () Nx))

/-- The four scratch buffers, whatever they hold. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def start (c : Dev nD) : sProp 𝕄 := iprop((∃ K, ghost m ρ K c) ∗ creds c ∗ levAts L lv)

def Φ₀ (c : Dev nD) : sProp 𝕄 := iprop(start m ρ c ∗ scr c)
def Φ₁ (c : Dev nD) : sProp 𝕄 := iprop(scr c ∗ zeros c ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => ustg m ρ c
    | ⟨3, _⟩ => vstg m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Small facts -/

theorem dev1 (c : Dev nD) : (⟨k0_dev1 c, k0_dev1_lt c⟩ : Dev nD) = left c := Fin.ext (k0_dev1_eq c)
theorem dev2 (c : Dev nD) : (⟨k0_dev2 c, k0_dev2_lt c⟩ : Dev nD) = right c := Fin.ext (k0_dev2_eq c)
theorem dev3 (c : Dev nD) : (⟨k0_dev3 c, k0_dev3_lt c⟩ : Dev nD) = right c := Fin.ext (k0_dev3_eq c)
theorem dev4 (c : Dev nD) : (⟨k0_dev4 c, k0_dev4_lt c⟩ : Dev nD) = right c := Fin.ext (k0_dev4_eq c)
theorem dev5 (c : Dev nD) : (⟨k0_dev5 c, k0_dev5_lt c⟩ : Dev nD) = right c := Fin.ext (k0_dev5_eq c)
theorem dev6 (c : Dev nD) : (⟨k0_dev6 c, k0_dev6_lt c⟩ : Dev nD) = right c := Fin.ext (k0_dev6_eq c)
theorem dev7 (c : Dev nD) : (⟨k0_dev7 c, k0_dev7_lt c⟩ : Dev nD) = right c := Fin.ext (k0_dev7_eq c)
theorem dev8 (c : Dev nD) : (⟨k0_dev8 c, k0_dev8_lt c⟩ : Dev nD) = right c := Fin.ext (k0_dev8_eq c)
theorem dev9 (c : Dev nD) : (⟨k0_dev9 c, k0_dev9_lt c⟩ : Dev nD) = left c := Fin.ext (k0_dev9_eq c)
theorem dev10 (c : Dev nD) : (⟨k0_dev10 c, k0_dev10_lt c⟩ : Dev nD) = left c := Fin.ext (k0_dev10_eq c)
theorem dev11 (c : Dev nD) : (⟨k0_dev11 c, k0_dev11_lt c⟩ : Dev nD) = left c := Fin.ext (k0_dev11_eq c)

theorem eighteen (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  rw [bigSep_univ_eq_bigSepL [0, 1, 2, 3, 4, 5, 6, 7, 8, 9, 10, 11, 12, 13, 14, 15, 16, 17] (by decide) (by decide)]; rfl
theorem ats_eq (c : Dev nD) : ats (F := F) c = iprop(atPos ER (dmaC c 0) 0 ∅ 0 ∗ atPos ER (dmaC c 1) 0 ∅ 0 ∗ atPos ER (dmaC c 2) 0 ∅ 0 ∗ atPos ER (dmaC c 3) 0 ∅ 0 ∗ atPos ER (dmaC c 4) 0 ∅ 0 ∗ atPos ER (dmaC c 5) 0 ∅ 0 ∗ atPos ER (dmaC c 6) 0 ∅ 0 ∗ atPos ER (dmaC c 7) 0 ∅ 0 ∗ atPos ER (dmaC c 8) 0 ∅ 0 ∗ atPos ER (dmaC c 9) 0 ∅ 0 ∗ atPos ER (dmaC c 10) 0 ∅ 0 ∗ atPos ER (dmaC c 11) 0 ∅ 0 ∗ atPos ER (dmaC c 12) 0 ∅ 0 ∗ atPos ER (dmaC c 13) 0 ∅ 0 ∗ atPos ER (dmaC c 14) 0 ∅ 0 ∗ atPos ER (dmaC c 15) 0 ∅ 0 ∗ atPos ER (dmaC c 16) 0 ∅ 0 ∗ atPos ER (dmaC c 17) 0 ∅ 0) := eighteen _
theorem zeros_eq (c : Dev nD) : zeros (F := F) c = iprop(semVal (dmaC c 0) 0 ∗ semVal (dmaC c 1) 0 ∗ semVal (dmaC c 2) 0 ∗ semVal (dmaC c 3) 0 ∗ semVal (dmaC c 4) 0 ∗ semVal (dmaC c 5) 0 ∗ semVal (dmaC c 6) 0 ∗ semVal (dmaC c 7) 0 ∗ semVal (dmaC c 8) 0 ∗ semVal (dmaC c 9) 0 ∗ semVal (dmaC c 10) 0 ∗ semVal (dmaC c 11) 0 ∗ semVal (dmaC c 12) 0 ∗ semVal (dmaC c 13) 0 ∗ semVal (dmaC c 14) 0 ∗ semVal (dmaC c 15) 0 ∗ semVal (dmaC c 16) 0 ∗ semVal (dmaC c 17) 0) := eighteen _
theorem toks_eq (c : Dev nD) : toks (F := F) c = iprop(dutyTok ER (dmaC c 0) 0 false ∗ dutyTok ER (dmaC c 1) 0 false ∗ dutyTok ER (dmaC c 2) 0 false ∗ dutyTok ER (dmaC (right c) 3) 0 false ∗ dutyTok ER (dmaC (right c) 4) 0 false ∗ dutyTok ER (dmaC (right c) 5) 0 false ∗ dutyTok ER (dmaC c 6) 0 false ∗ dutyTok ER (dmaC c 7) 0 false ∗ dutyTok ER (dmaC c 8) 0 false ∗ dutyTok ER (dmaC (right c) 9) 0 false ∗ dutyTok ER (dmaC (right c) 10) 0 false ∗ dutyTok ER (dmaC (right c) 11) 0 false ∗ dutyTok ER (dmaC c 12) 0 false ∗ dutyTok ER (dmaC c 13) 0 false ∗ dutyTok ER (dmaC c 14) 0 false ∗ dutyTok ER (dmaC (left c) 15) 0 false ∗ dutyTok ER (dmaC (left c) 16) 0 false ∗ dutyTok ER (dmaC (left c) 17) 0 false) := eighteen _

theorem hz2 : (![0, 0] : Fin 2 → Nat) = fun _ => 0 := funext fun a => by fin_cases a <;> rfl
theorem hz3 : (![0, 0, 0] : Fin 3 → Nat) = fun _ => 0 := funext fun a => by fin_cases a <;> rfl
abbrev xM : Memref sig .tc .vmem S128x512 .f32 := Memref.whole cc0_stg0_0
abbrev rM : Memref sig .tc .vmem S512x2 .f32 := Memref.whole cc0_stg1_0
abbrev uM : Memref sig .tc .vmem S2x512x1024 .f32 := Memref.whole cc0_stg2_0
abbrev vM : Memref sig .tc .vmem S2x1024x512 .f32 := Memref.whole cc0_stg3_0
abbrev oM : Memref sig .tc .vmem S128x512 .f32 := Memref.whole cc0_stg4_0
theorem read_x (f : (cc0_stg0_0 : Ref sig .tc).ty.Contents (Elt F)) :
    xM.view.readAt (Elt F) (Rect.unit (s := S128x512) ![0, 0] S128x512.size inb_S128x512_S128x512_0_0).toLoadRect f = f :=
  Memref.readAt_unit_zero (Elt F) cc0_stg0_0 hz2 _ f
theorem read_r (f : (cc0_stg1_0 : Ref sig .tc).ty.Contents (Elt F)) :
    rM.view.readAt (Elt F) (Rect.unit (s := S512x2) ![0, 0] S512x2.size inb_S512x2_S512x2_0_0).toLoadRect f = f :=
  Memref.readAt_unit_zero (Elt F) cc0_stg1_0 hz2 _ f
theorem read_xg (f : (cc0_scratch0 : Ref sig .tc).ty.Contents (Elt F)) :
    xgM.view.readAt (Elt F) (Rect.unit (s := S4x128x512) ![0, 0, 0] S4x128x512.size inb_S4x128x512_S4x128x512_0_0_0).toLoadRect f = f :=
  Memref.readAt_unit_zero (Elt F) cc0_scratch0 hz3 _ f
theorem write_o (f w : (cc0_stg4_0 : Ref sig .tc).ty.Contents (Elt F)) :
    (oM.access (Rect.unit (s := S128x512) ![0, 0] S128x512.size inb_S128x512_S128x512_0_0)).write (Elt F) f w Finset.univ = w :=
  Memref.write_access_unit_zero_univ (Elt F) cc0_stg4_0 hz2 _ f w
theorem write_a (f w : (cc0_scratch2 : Ref sig .tc).ty.Contents (Elt F)) :
    (acM.access (Rect.unit (s := S4x128x512) ![0, 0, 0] S4x128x512.size inb_S4x128x512_S4x128x512_0_0_0)).write (Elt F) f w Finset.univ = w :=
  Memref.write_access_unit_zero_univ (Elt F) cc0_scratch2 hz3 _ f w
theorem read_u (k : ℕ) (hk : k < 2) (f : (cc0_stg2_0 : Ref sig .tc).ty.Contents (Elt F)) :
    uM.view.readAt (Elt F) (rect 512 1024 k hk).toLoadRect f = slotOf (n := 2) (R := 512) (C := 1024) f ⟨k, hk⟩ :=
  funext fun z => slotOf_rect (n := 2) (R := 512) (C := 1024) f hk z
theorem read_v (k : ℕ) (hk : k < 2) (f : (cc0_stg3_0 : Ref sig .tc).ty.Contents (Elt F)) :
    vM.view.readAt (Elt F) (rect 1024 512 k hk).toLoadRect f = slotOf (n := 2) (R := 1024) (C := 512) f ⟨k, hk⟩ :=
  funext fun z => slotOf_rect (n := 2) (R := 1024) (C := 512) f hk z

/-- Of a slot held, only the slot's contents matter. -/
theorem a_same (c : Dev nD) (k : ℕ) (hk : k < 4) (f g : Fin 4 → Vec F S1x128x512 .f32) (h : f ⟨k, hk⟩ = g ⟨k, hk⟩) :
    (aP c k hk (stack f) : sProp 𝕄) = aP c k hk (stack g) :=
  pointsTo_congr fun i hi =>
    have hi' := Eq.mpr (congrArg (i ∈ ·) (a_acc k hk)) hi
    (landed (acM.access (rect 128 512 k hk)) (stack f) (stack f) (f ⟨k, hk⟩) (a_read f k hk).symm i hi').symm.trans
      (landed (acM.access (rect 128 512 k hk)) (stack f) (stack g) (f ⟨k, hk⟩) (h.trans (a_read g k hk).symm) i hi')

theorem part_eq (c : Dev nD) : part m ρ c = stack (pt m ρ c) := (stack_slotOf (n := 4) (R := 128) (C := 512) (part m ρ c)).symm

/-! ## The run -/

theorem x_hop (c : Dev nD) (k : ℕ) (hk : k < 3 := by decide) : xgF m ρ c ⟨k, by omega⟩ = xgF m ρ (right c) ⟨k + 1, by omega⟩ := by
  interval_cases k
  · show x0 m ρ c = x0 m ρ (left (right c)); rw [left_right]
  · show x0 m ρ (left c) = x0 m ρ (left (left (right c))); rw [left_right]
  · show x0 m ρ (left (left c)) = x0 m ρ (left (left (left (right c)))); rw [left_right]
theorem r_hop (c : Dev nD) (k : ℕ) (hk : k < 3 := by decide) : rgF m ρ c ⟨k, by omega⟩ = rgF m ρ (right c) ⟨k + 1, by omega⟩ := by
  interval_cases k
  · show g0 m ρ c = g0 m ρ (left (right c)); rw [left_right]
  · show g0 m ρ (left c) = g0 m ρ (left (left (right c))); rw [left_right]
  · show g0 m ρ (left (left c)) = g0 m ρ (left (left (left (right c)))); rw [left_right]
theorem a_hop (c : Dev nD) (k : ℕ) (hk : k < 3 := by decide) : acF m ρ c ⟨3 - k, by omega⟩ = rsF m ρ (left c) ⟨k, hk⟩ := by
  interval_cases k
  · show p3 m ρ c = p3 m ρ (right (left c)); rw [right_left]
  · show p2 m ρ c = p2 m ρ (right (left c)); rw [right_left]
  · show p1 m ρ c = p1 m ρ (right (left c)); rw [right_left]

def bodyPre (K : Dev nD × Fin 19 → ℕ) (c : Dev nD) : sProp 𝕄 :=
  iprop((ghost m ρ K c ∗ creds c ∗ levAts L lv ∗ scr c) ∗ ow c (dues c)
    ∗ stg c cc0_stg0_0 (xstg m ρ c) ∗ stg c cc0_stg1_0 (rstg m ρ c) ∗ stg c cc0_stg2_0 (ustg m ρ c) ∗ stg c cc0_stg3_0 (vstg m ρ c)
    ∗ ∃ f, ((c : Thread nD τ).loc cc0_stg4_0) ↦{fullShare} f)

def bodyPost (c : Dev nD) : sProp 𝕄 :=
  iprop(Φ₁ c ∗ ow c [] ∗ stg c cc0_stg0_0 (xstg m ρ c) ∗ stg c cc0_stg1_0 (rstg m ρ c) ∗ stg c cc0_stg2_0 (ustg m ρ c) ∗ stg c cc0_stg3_0 (vstg m ρ c)
    ∗ stg c cc0_stg4_0 (outAt m ρ c))

variable (K : Dev nD × Fin 19 → ℕ)

set_option maxHeartbeats 4000000 in
/-- The kernel's body on device `c`: from what it starts with to what it ends with, its result staged. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9) Kt := by
  simp only [cc0_body_eq_skeleton]; unfold cc0_body_skel
  unfold bodyPre ghost creds scr dues
  rw [ats_eq, toks_eq]
  iintro ⟨⟨⟨⟨#HC, Hb, ⟨A0, A1, A2, A3, A4, A5, A6, A7, A8, A9, A10, A11, A12, A13, A14, A15, A16, A17⟩, Tl, Tr, T0, T1, T2, T3, T4, T5, T6, T7, T8, T9, T10, T11, T12, T13, T14, T15, T16, T17⟩, ⟨Cb, C3, C9, C4, C10, C5, C11, C15, C16, C17⟩, #HL, ⟨%fx, Sx⟩, ⟨%fr, Sr⟩, ⟨%fa, Sa⟩, ⟨%fs, Ss⟩⟩, HO,
    ⟨%gx, %ex, Hx⟩, ⟨%gr, %er, Hr⟩, ⟨%gu, %eu, Hu⟩, ⟨%gv, %ev, Hv⟩, ⟨%go, Ho⟩⟩, Hk⟩
  subst ex er eu ev
  ihave Sx := (Entails.of_eq (x_split' c fx)) $$ Sx
  icases Sx with ⟨X0, X1, X2, X3⟩
  ihave Sr := (Entails.of_eq (r_split' c fr)) $$ Sr
  icases Sr with ⟨R0, R1, R2, R3⟩
  ihave Ss := (Entails.of_eq (s_split' c fs)) $$ Ss
  icases Ss with ⟨S0, S1, S2⟩
  -- part 1
  simp only [k0_part1_eq_skeleton]; unfold k0_part1_skel
  simp only [semSignalWord, semWaitWord, Prog.lift, Prog.bind_op, Prog.bind_ret, Prog.pure_eq_ret, wp_deviceId]

  iapply (wp_ring m ρ K c (⟨k0_dev1 c, k0_dev1_lt c⟩ : Dev nD) (left c) (dev1 c) true) $$ [HO Tl X1 X2 X3 R1 R2 R3]
  · isplitr; · iexact HC
    isplitl [HO]; · iexact HO
    isplitl [Tl]; · iexact Tl
    rw [if_pos rfl]; unfold barR; rw [right_left]
    isplitl [X1 X2 X3]
    · isplitl [X1]; · iexists fx; iexact X1
      isplitl [X2]; · iexists fx; iexact X2
      iexists fx; iexact X3
    isplitl [R1]; · iexists fr; iexact R1
    isplitl [R2]; · iexists fr; iexact R2
    iexists fr; iexact R3
  iintro HO
  iapply (wp_ring m ρ K c (⟨k0_dev2 c, k0_dev2_lt c⟩ : Dev nD) (right c) (dev2 c) false) $$ [HO Tr S0 S1 S2]
  · isplitr; · iexact HC
    isplitl [HO]; · iexact HO
    isplitl [Tr]; · iexact Tr
    rw [if_neg Bool.false_ne_true]; unfold barL; rw [left_right]
    isplitl [S0]; · iexists fs; iexact S0
    isplitl [S1]; · iexists fs; iexact S1
    iexists fs; iexact S2
  iintro HO
  iapply (wp_meet m ρ K c (l := [(dmaC (right c) 3, Nx), (dmaC (right c) 9, Nr), (dmaC (right c) 4, Nx), (dmaC (right c) 10, Nr), (dmaC (right c) 5, Nx), (dmaC (right c) 11, Nr), (dmaC (left c) 15, Nx), (dmaC (left c) 16, Nx), (dmaC (left c) 17, Nx)]) rfl) $$ [Cb HO Hb]
  · isplitr; · iexact HC
    isplitr; · iexact HL
    isplitl [Cb]; · iexact Cb
    isplitl [HO] <;> iassumption
  unfold barL barR
  iintro ⟨HO, Zb, ⟨L0, L1, L2⟩, ⟨X1', X2', X3'⟩, R1', R2', R3'⟩
  iapply (wp_load 𝒱₀ (c : Thread nD τ) none Set.univ (m := xM) (Finset.subset_univ _)) $$ Hx; iintro Hx
  rw [read_x]
  -- part 2
  simp only [k0_part2_eq_skeleton]; unfold k0_part2_skel
  simp only [semSignalWord, semWaitWord, Prog.lift, Prog.bind_op, Prog.bind_ret, Prog.pure_eq_ret, wp_deviceId]

  iapply (wp_skip_x c 0 _ fx) $$ X0; iintro X0
  iapply (wp_store_x c 0 _ fx (xgF m ρ c) rfl) $$ X0; iintro X0
  iapply (wp_load 𝒱₀ (c : Thread nD τ) none Set.univ (m := rM) (Finset.subset_univ _)) $$ Hr; iintro Hr
  rw [read_r]
  iapply (wp_skip_r c 0 _ fr) $$ R0; iintro R0
  iapply (wp_store_r c 0 _ fr (rgF m ρ c) rfl) $$ R0; iintro R0
  iapply (push_x m ρ K c (⟨k0_dev3 c, k0_dev3_lt c⟩ : Dev nD) (right c) (dev3 c) 0 1 (by decide) (by decide) 0 3 (x_hop m ρ c 0) rfl rfl rfl rfl rfl) $$ [HO X0 X1' T0 T3]
  · isplitr; · iexact HC
    isplitl [HO]; · iexact HO
    isplitl [X0]; · iexact X0
    isplitl [X1']; · iexact X1'
    isplitl [T0] <;> iassumption
  iintro ⟨Cs0, HO⟩
  -- part 3
  simp only [k0_part3_eq_skeleton]; unfold k0_part3_skel
  simp only [semSignalWord, semWaitWord, Prog.lift, Prog.bind_op, Prog.bind_ret, Prog.pure_eq_ret, wp_deviceId]
  iapply (push_r m ρ K c (⟨k0_dev4 c, k0_dev4_lt c⟩ : Dev nD) (right c) (dev4 c) 0 1 (by decide) (by decide) 6 9 (r_hop m ρ c 0) rfl rfl rfl rfl rfl) $$ [HO R0 R1' T6 T9]
  · isplitr; · iexact HC
    isplitl [HO]; · iexact HO
    isplitl [R0]; · iexact R0
    isplitl [R1']; · iexact R1'
    isplitl [T6] <;> iassumption
  iintro ⟨Cs6, HO⟩
  iapply (wp_take m ρ K c 0 (xgS 1) (xgS 0) Nx rfl rfl (l := [(dmaC (right c) 4, Nx), (dmaC (right c) 10, Nr), (dmaC (right c) 5, Nx), (dmaC (right c) 11, Nr), (dmaC (left c) 15, Nx), (dmaC (left c) 16, Nx), (dmaC (left c) 17, Nx)]) rfl) $$ [HO A0 Cs0]
  · isplitr; · iexact HC
    isplitr; · iexact HL
    isplitl [Cs0]; · iexact Cs0
    isplitl [HO] <;> iassumption
  iintro ⟨HO, Z0, Hp⟩
  ihave X0 := (show dpay m ρ c 0 ⊢ xP c 0 (by decide) (stack (xgF m ρ c)) from BI.Entails.refl _) $$ Hp
  iapply (wp_take m ρ K c 3 (xgS 0) (xgS 1) Nx rfl rfl (l := [(dmaC (right c) 4, Nx), (dmaC (right c) 10, Nr), (dmaC (right c) 5, Nx), (dmaC (right c) 11, Nr), (dmaC (left c) 15, Nx), (dmaC (left c) 16, Nx), (dmaC (left c) 17, Nx)]) rfl) $$ [HO A3 C3]
  · isplitr; · iexact HC
    isplitr; · iexact HL
    isplitl [C3]; · iexact C3
    isplitl [HO] <;> iassumption
  iintro ⟨HO, Z3, Hp⟩
  ihave X1 := (show dpay m ρ c 3 ⊢ xP c 1 (by decide) (stack (xgF m ρ c)) from BI.Entails.refl _) $$ Hp
  -- part 4
  simp only [k0_part4_eq_skeleton]; unfold k0_part4_skel
  simp only [semSignalWord, semWaitWord, Prog.lift, Prog.bind_op, Prog.bind_ret, Prog.pure_eq_ret, wp_deviceId]
  iapply (wp_take m ρ K c 6 (rgS 1) (rgS 0) Nr rfl rfl (l := [(dmaC (right c) 4, Nx), (dmaC (right c) 10, Nr), (dmaC (right c) 5, Nx), (dmaC (right c) 11, Nr), (dmaC (left c) 15, Nx), (dmaC (left c) 16, Nx), (dmaC (left c) 17, Nx)]) rfl) $$ [HO A6 Cs6]
  · isplitr; · iexact HC
    isplitr; · iexact HL
    isplitl [Cs6]; · iexact Cs6
    isplitl [HO] <;> iassumption
  iintro ⟨HO, Z6, Hp⟩
  ihave R0 := (show dpay m ρ c 6 ⊢ rP c 0 (by decide) (stack (rgF m ρ c)) from BI.Entails.refl _) $$ Hp
  iapply (wp_take m ρ K c 9 (rgS 0) (rgS 1) Nr rfl rfl (l := [(dmaC (right c) 4, Nx), (dmaC (right c) 10, Nr), (dmaC (right c) 5, Nx), (dmaC (right c) 11, Nr), (dmaC (left c) 15, Nx), (dmaC (left c) 16, Nx), (dmaC (left c) 17, Nx)]) rfl) $$ [HO A9 C9]
  · isplitr; · iexact HC
    isplitr; · iexact HL
    isplitl [C9]; · iexact C9
    isplitl [HO] <;> iassumption
  iintro ⟨HO, Z9, Hp⟩
  ihave R1 := (show dpay m ρ c 9 ⊢ rP c 1 (by decide) (stack (rgF m ρ c)) from BI.Entails.refl _) $$ Hp
  iapply (push_x m ρ K c (⟨k0_dev5 c, k0_dev5_lt c⟩ : Dev nD) (right c) (dev5 c) 1 2 (by decide) (by decide) 1 4 (x_hop m ρ c 1) rfl rfl rfl rfl rfl) $$ [HO X1 X2' T1 T4]
  · isplitr; · iexact HC
    isplitl [HO]; · iexact HO
    isplitl [X1]; · iexact X1
    isplitl [X2']; · iexact X2'
    isplitl [T1] <;> iassumption
  iintro ⟨Cs1, HO⟩
  -- part 5
  simp only [k0_part5_eq_skeleton]; unfold k0_part5_skel
  simp only [semSignalWord, semWaitWord, Prog.lift, Prog.bind_op, Prog.bind_ret, Prog.pure_eq_ret, wp_deviceId]
  iapply (push_r m ρ K c (⟨k0_dev6 c, k0_dev6_lt c⟩ : Dev nD) (right c) (dev6 c) 1 2 (by decide) (by decide) 7 10 (r_hop m ρ c 1) rfl rfl rfl rfl rfl) $$ [HO R1 R2' T7 T10]
  · isplitr; · iexact HC
    isplitl [HO]; · iexact HO
    isplitl [R1]; · iexact R1
    isplitl [R2']; · iexact R2'
    isplitl [T7] <;> iassumption
  iintro ⟨Cs7, HO⟩
  iapply (wp_take m ρ K c 1 (xgS 2) (xgS 1) Nx rfl rfl (l := [(dmaC (right c) 5, Nx), (dmaC (right c) 11, Nr), (dmaC (left c) 15, Nx), (dmaC (left c) 16, Nx), (dmaC (left c) 17, Nx)]) rfl) $$ [HO A1 Cs1]
  · isplitr; · iexact HC
    isplitr; · iexact HL
    isplitl [Cs1]; · iexact Cs1
    isplitl [HO] <;> iassumption
  iintro ⟨HO, Z1, Hp⟩
  ihave X1 := (show dpay m ρ c 1 ⊢ xP c 1 (by decide) (stack (xgF m ρ c)) from BI.Entails.refl _) $$ Hp
  -- part 6
  simp only [k0_part6_eq_skeleton]; unfold k0_part6_skel
  simp only [semSignalWord, semWaitWord, Prog.lift, Prog.bind_op, Prog.bind_ret, Prog.pure_eq_ret, wp_deviceId]
  iapply (wp_take m ρ K c 4 (xgS 1) (xgS 2) Nx rfl rfl (l := [(dmaC (right c) 5, Nx), (dmaC (right c) 11, Nr), (dmaC (left c) 15, Nx), (dmaC (left c) 16, Nx), (dmaC (left c) 17, Nx)]) rfl) $$ [HO A4 C4]
  · isplitr; · iexact HC
    isplitr; · iexact HL
    isplitl [C4]; · iexact C4
    isplitl [HO] <;> iassumption
  iintro ⟨HO, Z4, Hp⟩
  ihave X2 := (show dpay m ρ c 4 ⊢ xP c 2 (by decide) (stack (xgF m ρ c)) from BI.Entails.refl _) $$ Hp
  iapply (wp_take m ρ K c 7 (rgS 2) (rgS 1) Nr rfl rfl (l := [(dmaC (right c) 5, Nx), (dmaC (right c) 11, Nr), (dmaC (left c) 15, Nx), (dmaC (left c) 16, Nx), (dmaC (left c) 17, Nx)]) rfl) $$ [HO A7 Cs7]
  · isplitr; · iexact HC
    isplitr; · iexact HL
    isplitl [Cs7]; · iexact Cs7
    isplitl [HO] <;> iassumption
  iintro ⟨HO, Z7, Hp⟩
  ihave R1 := (show dpay m ρ c 7 ⊢ rP c 1 (by decide) (stack (rgF m ρ c)) from BI.Entails.refl _) $$ Hp
  iapply (wp_take m ρ K c 10 (rgS 1) (rgS 2) Nr rfl rfl (l := [(dmaC (right c) 5, Nx), (dmaC (right c) 11, Nr), (dmaC (left c) 15, Nx), (dmaC (left c) 16, Nx), (dmaC (left c) 17, Nx)]) rfl) $$ [HO A10 C10]
  · isplitr; · iexact HC
    isplitr; · iexact HL
    isplitl [C10]; · iexact C10
    isplitl [HO] <;> iassumption
  iintro ⟨HO, Z10, Hp⟩
  ihave R2 := (show dpay m ρ c 10 ⊢ rP c 2 (by decide) (stack (rgF m ρ c)) from BI.Entails.refl _) $$ Hp
  -- part 7
  simp only [k0_part7_eq_skeleton]; unfold k0_part7_skel
  simp only [semSignalWord, semWaitWord, Prog.lift, Prog.bind_op, Prog.bind_ret, Prog.pure_eq_ret, wp_deviceId]
  iapply (push_x m ρ K c (⟨k0_dev7 c, k0_dev7_lt c⟩ : Dev nD) (right c) (dev7 c) 2 3 (by decide) (by decide) 2 5 (x_hop m ρ c 2) rfl rfl rfl rfl rfl) $$ [HO X2 X3' T2 T5]
  · isplitr; · iexact HC
    isplitl [HO]; · iexact HO
    isplitl [X2]; · iexact X2
    isplitl [X3']; · iexact X3'
    isplitl [T2] <;> iassumption
  iintro ⟨Cs2, HO⟩
  iapply (push_r m ρ K c (⟨k0_dev8 c, k0_dev8_lt c⟩ : Dev nD) (right c) (dev8 c) 2 3 (by decide) (by decide) 8 11 (r_hop m ρ c 2) rfl rfl rfl rfl rfl) $$ [HO R2 R3' T8 T11]
  · isplitr; · iexact HC
    isplitl [HO]; · iexact HO
    isplitl [R2]; · iexact R2
    isplitl [R3']; · iexact R3'
    isplitl [T8] <;> iassumption
  iintro ⟨Cs8, HO⟩
  iapply (wp_take m ρ K c 2 (xgS 3) (xgS 2) Nx rfl rfl (l := [(dmaC (left c) 15, Nx), (dmaC (left c) 16, Nx), (dmaC (left c) 17, Nx)]) rfl) $$ [HO A2 Cs2]
  · isplitr; · iexact HC
    isplitr; · iexact HL
    isplitl [Cs2]; · iexact Cs2
    isplitl [HO] <;> iassumption
  iintro ⟨HO, Z2, Hp⟩
  ihave X2 := (show dpay m ρ c 2 ⊢ xP c 2 (by decide) (stack (xgF m ρ c)) from BI.Entails.refl _) $$ Hp
  -- part 8
  simp only [k0_part8_eq_skeleton]; unfold k0_part8_skel
  simp only [semSignalWord, semWaitWord, Prog.lift, Prog.bind_op, Prog.bind_ret, Prog.pure_eq_ret, wp_deviceId]
  iapply (wp_take m ρ K c 5 (xgS 2) (xgS 3) Nx rfl rfl (l := [(dmaC (left c) 15, Nx), (dmaC (left c) 16, Nx), (dmaC (left c) 17, Nx)]) rfl) $$ [HO A5 C5]
  · isplitr; · iexact HC
    isplitr; · iexact HL
    isplitl [C5]; · iexact C5
    isplitl [HO] <;> iassumption
  iintro ⟨HO, Z5, Hp⟩
  ihave X3 := (show dpay m ρ c 5 ⊢ xP c 3 (by decide) (stack (xgF m ρ c)) from BI.Entails.refl _) $$ Hp
  iapply (wp_take m ρ K c 8 (rgS 3) (rgS 2) Nr rfl rfl (l := [(dmaC (left c) 15, Nx), (dmaC (left c) 16, Nx), (dmaC (left c) 17, Nx)]) rfl) $$ [HO A8 Cs8]
  · isplitr; · iexact HC
    isplitr; · iexact HL
    isplitl [Cs8]; · iexact Cs8
    isplitl [HO] <;> iassumption
  iintro ⟨HO, Z8, Hp⟩
  ihave R2 := (show dpay m ρ c 8 ⊢ rP c 2 (by decide) (stack (rgF m ρ c)) from BI.Entails.refl _) $$ Hp
  -- part 9
  simp only [k0_part9_eq_skeleton]; unfold k0_part9_skel
  simp only [semSignalWord, semWaitWord, Prog.lift, Prog.bind_op, Prog.bind_ret, Prog.pure_eq_ret, wp_deviceId]
  iapply (wp_take m ρ K c 11 (rgS 2) (rgS 3) Nr rfl rfl (l := [(dmaC (left c) 15, Nx), (dmaC (left c) 16, Nx), (dmaC (left c) 17, Nx)]) rfl) $$ [HO A11 C11]
  · isplitr; · iexact HC
    isplitr; · iexact HL
    isplitl [C11]; · iexact C11
    isplitl [HO] <;> iassumption
  iintro ⟨HO, Z11, Hp⟩
  ihave R3 := (show dpay m ρ c 11 ⊢ rP c 3 (by decide) (stack (rgF m ρ c)) from BI.Entails.refl _) $$ Hp
  ihave Sx := (Entails.of_eq (x_split' c (stack (xgF m ρ c))).symm) $$ [X0 X1 X2 X3]
  · isplitl [X0]; · iexact X0
    isplitl [X1]; · iexact X1
    isplitl [X2] <;> iassumption
  iapply (wp_load 𝒱₀ (c : Thread nD τ) none Set.univ (m := xgM) (Finset.subset_univ _)) $$ Sx; iintro Sx
  rw [read_xg]
  iapply (wp_load_r c 0 _ (rgF m ρ c)) $$ R0; iintro R0
  iapply (wp_load_r c 1 _ (rgF m ρ c)) $$ R1; iintro R1
  iapply (wp_load_r c 2 _ (rgF m ρ c)) $$ R2; iintro R2
  iapply (wp_load_r c 3 _ (rgF m ρ c)) $$ R3; iintro R3
  -- part 10
  simp only [k0_part10_eq_skeleton]; unfold k0_part10_skel
  simp only [semSignalWord, semWaitWord, Prog.lift, Prog.bind_op, Prog.bind_ret, Prog.pure_eq_ret, wp_deviceId]
  iapply (wp_load 𝒱₀ (c : Thread nD τ) none Set.univ (m := uM) (Finset.subset_univ _)) $$ Hu; iintro Hu
  rw [read_u 0 (by decide)]
  iapply (wp_load 𝒱₀ (c : Thread nD τ) none Set.univ (m := vM) (Finset.subset_univ _)) $$ Hv; iintro Hv
  rw [read_v 0 (by decide)]
  iapply (wp_load 𝒱₀ (c : Thread nD τ) none Set.univ (m := uM) (Finset.subset_univ _)) $$ Hu; iintro Hu
  rw [read_u 1 (by decide)]
  iapply (wp_load 𝒱₀ (c : Thread nD τ) none Set.univ (m := vM) (Finset.subset_univ _)) $$ Hv; iintro Hv
  rw [read_v 1 (by decide)]
  iapply (wp_load 𝒱₀ (c : Thread nD τ) none Set.univ (m := acM) (Finset.subset_univ _)) $$ Sa; iintro Sa
  iapply (wp_store 𝒱₀ (c : Thread nD τ) none Set.univ (m := acM) (r := Rect.unit (s := S4x128x512) ![0, 0, 0] S4x128x512.size inb_S4x128x512_S4x128x512_0_0_0) (w := part m ρ c) (Mk := Finset.univ) (Finset.subset_univ _)) $$ Sa; iintro Sa
  rw [write_a, part_eq]
  ihave Sa := (Entails.of_eq (a_split' c (stack (pt m ρ c)))) $$ Sa
  icases Sa with ⟨P0, P1, P2, P3⟩
  ihave P3 := (Entails.of_eq (a_same c 3 _ (pt m ρ c) (acF m ρ c) rfl)) $$ P3
  -- part 11
  simp only [k0_part11_eq_skeleton]; unfold k0_part11_skel
  simp only [semSignalWord, semWaitWord, Prog.lift, Prog.bind_op, Prog.bind_ret, Prog.pure_eq_ret, wp_deviceId]
  iapply (push_a m ρ K c (⟨k0_dev9 c, k0_dev9_lt c⟩ : Dev nD) (left c) (dev9 c) 3 0 (by decide) (by decide) 12 15 (a_hop m ρ c 0) rfl rfl rfl rfl rfl) $$ [HO P3 L0 T12 T15]
  · isplitr; · iexact HC
    isplitl [HO]; · iexact HO
    isplitl [P3]; · iexact P3
    isplitl [L0]; · iexact L0
    isplitl [T12] <;> iassumption
  iintro ⟨Cs12, HO⟩
  iapply (wp_take m ρ K c 12 (rsS 0) (acS 3) Nx rfl rfl (l := [(dmaC (left c) 16, Nx), (dmaC (left c) 17, Nx)]) rfl) $$ [HO A12 Cs12]
  · isplitr; · iexact HC
    isplitr; · iexact HL
    isplitl [Cs12]; · iexact Cs12
    isplitl [HO] <;> iassumption
  iintro ⟨HO, Z12, Hp⟩
  ihave P3 := (show dpay m ρ c 12 ⊢ aP c 3 (by decide) (stack (acF m ρ c)) from BI.Entails.refl _) $$ Hp
  -- part 12
  simp only [k0_part12_eq_skeleton]; unfold k0_part12_skel
  simp only [semSignalWord, semWaitWord, Prog.lift, Prog.bind_op, Prog.bind_ret, Prog.pure_eq_ret, wp_deviceId]
  iapply (wp_take m ρ K c 15 (acS 3) (rsS 0) Nx rfl rfl (l := [(dmaC (left c) 16, Nx), (dmaC (left c) 17, Nx)]) rfl) $$ [HO A15 C15]
  · isplitr; · iexact HC
    isplitr; · iexact HL
    isplitl [C15]; · iexact C15
    isplitl [HO] <;> iassumption
  iintro ⟨HO, Z15, Hp⟩
  ihave S0 := (show dpay m ρ c 15 ⊢ sP c 0 (by decide) (stack (rsF m ρ c)) from BI.Entails.refl _) $$ Hp
  iapply (wp_load_a c 2 _ (pt m ρ c)) $$ P2; iintro P2
  iapply (wp_load_s c 0 _ (rsF m ρ c)) $$ S0; iintro S0
  iapply (wp_skip_a c 2 _ (stack (pt m ρ c))) $$ P2; iintro P2
  iapply (wp_store_a c 2 _ (stack (pt m ρ c)) (acF m ρ c) rfl) $$ P2; iintro P2
  iapply (push_a m ρ K c (⟨k0_dev10 c, k0_dev10_lt c⟩ : Dev nD) (left c) (dev10 c) 2 1 (by decide) (by decide) 13 16 (a_hop m ρ c 1) rfl rfl rfl rfl rfl) $$ [HO P2 L1 T13 T16]
  · isplitr; · iexact HC
    isplitl [HO]; · iexact HO
    isplitl [P2]; · iexact P2
    isplitl [L1]; · iexact L1
    isplitl [T13] <;> iassumption
  iintro ⟨Cs13, HO⟩
  -- part 13
  simp only [k0_part13_eq_skeleton]; unfold k0_part13_skel
  simp only [semSignalWord, semWaitWord, Prog.lift, Prog.bind_op, Prog.bind_ret, Prog.pure_eq_ret, wp_deviceId]
  iapply (wp_take m ρ K c 13 (rsS 1) (acS 2) Nx rfl rfl (l := [(dmaC (left c) 17, Nx)]) rfl) $$ [HO A13 Cs13]
  · isplitr; · iexact HC
    isplitr; · iexact HL
    isplitl [Cs13]; · iexact Cs13
    isplitl [HO] <;> iassumption
  iintro ⟨HO, Z13, Hp⟩
  ihave P2 := (show dpay m ρ c 13 ⊢ aP c 2 (by decide) (stack (acF m ρ c)) from BI.Entails.refl _) $$ Hp
  iapply (wp_take m ρ K c 16 (acS 2) (rsS 1) Nx rfl rfl (l := [(dmaC (left c) 17, Nx)]) rfl) $$ [HO A16 C16]
  · isplitr; · iexact HC
    isplitr; · iexact HL
    isplitl [C16]; · iexact C16
    isplitl [HO] <;> iassumption
  iintro ⟨HO, Z16, Hp⟩
  ihave S1 := (show dpay m ρ c 16 ⊢ sP c 1 (by decide) (stack (rsF m ρ c)) from BI.Entails.refl _) $$ Hp
  iapply (wp_load_a c 1 _ (pt m ρ c)) $$ P1; iintro P1
  iapply (wp_load_s c 1 _ (rsF m ρ c)) $$ S1; iintro S1
  iapply (wp_skip_a c 1 _ (stack (pt m ρ c))) $$ P1; iintro P1
  iapply (wp_store_a c 1 _ (stack (pt m ρ c)) (acF m ρ c) rfl) $$ P1; iintro P1
  -- part 14
  simp only [k0_part14_eq_skeleton]; unfold k0_part14_skel
  simp only [semSignalWord, semWaitWord, Prog.lift, Prog.bind_op, Prog.bind_ret, Prog.pure_eq_ret, wp_deviceId]
  iapply (push_a m ρ K c (⟨k0_dev11 c, k0_dev11_lt c⟩ : Dev nD) (left c) (dev11 c) 1 2 (by decide) (by decide) 14 17 (a_hop m ρ c 2) rfl rfl rfl rfl rfl) $$ [HO P1 L2 T14 T17]
  · isplitr; · iexact HC
    isplitl [HO]; · iexact HO
    isplitl [P1]; · iexact P1
    isplitl [L2]; · iexact L2
    isplitl [T14] <;> iassumption
  iintro ⟨Cs14, HO⟩
  iapply (wp_take m ρ K c 14 (rsS 2) (acS 1) Nx rfl rfl (l := []) rfl) $$ [HO A14 Cs14]
  · isplitr; · iexact HC
    isplitr; · iexact HL
    isplitl [Cs14]; · iexact Cs14
    isplitl [HO] <;> iassumption
  iintro ⟨HO, Z14, Hp⟩
  ihave P1 := (show dpay m ρ c 14 ⊢ aP c 1 (by decide) (stack (acF m ρ c)) from BI.Entails.refl _) $$ Hp
  iapply (wp_take m ρ K c 17 (acS 1) (rsS 2) Nx rfl rfl (l := []) rfl) $$ [HO A17 C17]
  · isplitr; · iexact HC
    isplitr; · iexact HL
    isplitl [C17]; · iexact C17
    isplitl [HO] <;> iassumption
  iintro ⟨HO, Z17, Hp⟩
  ihave S2 := (show dpay m ρ c 17 ⊢ sP c 2 (by decide) (stack (rsF m ρ c)) from BI.Entails.refl _) $$ Hp
  iapply (wp_load_a c 0 _ (pt m ρ c)) $$ P0; iintro P0
  iapply (wp_load_s c 2 _ (rsF m ρ c)) $$ S2; iintro S2
  iapply (wp_skip_a c 0 _ (stack (pt m ρ c))) $$ P0; iintro P0
  iapply (wp_store_a c 0 _ (stack (pt m ρ c)) (acF m ρ c) rfl) $$ P0; iintro P0
  iapply (wp_load_a c 0 _ (acF m ρ c)) $$ P0; iintro P0
  iapply (wp_load 𝒱₀ (c : Thread nD τ) none Set.univ (m := oM) (Finset.subset_univ _)) $$ Ho; iintro Ho
  iapply (wp_store 𝒱₀ (c : Thread nD τ) none Set.univ (m := oM) (r := Rect.unit (s := S128x512) ![0, 0] S128x512.size inb_S128x512_S128x512_0_0) (Mk := Finset.univ) (Finset.subset_univ _)) $$ Ho; iintro Ho
  rw [write_o, wp_ret]; imodintro
  iapply Hk
  unfold bodyPost Φ₁ scr
  rw [zeros_eq]
  isplitl [Sx R0 R1 R2 R3 P0 P1 P2 P3 S0 S1 S2 Z0 Z1 Z2 Z3 Z4 Z5 Z6 Z7 Z8 Z9 Z10 Z11 Z12 Z13 Z14 Z15 Z16 Z17 Zb]
  · isplitl [Sx R0 R1 R2 R3 P0 P1 P2 P3 S0 S1 S2]
    · isplitl [Sx]; · iexists _; iexact Sx
      isplitl [R0 R1 R2 R3]
      · iexists stack (rgF m ρ c); iapply (Entails.of_eq (r_split' c (stack (rgF m ρ c))).symm)
        isplitl [R0]; · iexact R0
        isplitl [R1]; · iexact R1
        isplitl [R2] <;> iassumption
      isplitl [P0 P1 P2 P3]
      · iexists stack (acF m ρ c); iapply (Entails.of_eq (a_split' c (stack (acF m ρ c))).symm)
        isplitl [P0]; · iexact P0
        isplitl [P1]; · iexact P1
        isplitl [P2] <;> iassumption
      iexists stack (rsF m ρ c); iapply (Entails.of_eq (s_split' c (stack (rsF m ρ c))).symm)
      isplitl [S0]; · iexact S0
      isplitl [S1] <;> iassumption
    isplitl [Z0 Z1 Z2 Z3 Z4 Z5 Z6 Z7 Z8 Z9 Z10 Z11 Z12 Z13 Z14 Z15 Z16 Z17]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      iexact Z17
    iexact Zb
  isplitl [HO]; · iexact HO
  isplitl [Hx]; · iexists _; isplitr; · (ipureintro; rfl)
                  iexact Hx
  isplitl [Hr]; · iexists _; isplitr; · (ipureintro; rfl)
                  iexact Hr
  isplitl [Hu]; · iexists _; isplitr; · (ipureintro; rfl)
                  iexact Hu
  isplitl [Hv]; · iexists _; isplitr; · (ipureintro; rfl)
                  iexact Hv
  iexists _; isplitr; · (ipureintro; rfl)
  iexact Ho

end Cert.KernelIdealProof

end
-- ==== Proof.KernelIdeal.Launch.lean ====
/-
# The launch

The body's run as the pipeline calls it; the exchange's ghost state minted at launch and dealt to the devices; the run of the
whole program, with what every array holds at the end: the arguments what they held, the result what the kernel computed.
-/
module

public import proofs.«01_k».proof.Proof.KernelIdeal.Body
public import Idealize.ShloMosaic.Lib.Pipeline.CollectiveSegs
public import Idealize.ShloMosaic.Lib.StableHlo.RunHlo

@[expose] public section

set_option maxRecDepth 16384

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body, as the pipeline calls it -/

theorem before_x (c : Dev nD) (d) : (dats m ρ 0 c).before (0 : Fin 5) t0_0 d = xstg m ρ c := by
  unfold Dat.before; rw [if_pos (fetch0_0 _)]; rfl
theorem before_r (c : Dev nD) (d) : (dats m ρ 0 c).before (1 : Fin 5) t0_0 d = rstg m ρ c := by
  unfold Dat.before; rw [if_pos (fetch0_1 _)]; rfl
theorem before_u (c : Dev nD) (d) : (dats m ρ 0 c).before (2 : Fin 5) t0_0 d = ustg m ρ c := by
  unfold Dat.before; rw [if_pos (fetch0_2 _)]; rfl
theorem before_v (c : Dev nD) (d) : (dats m ρ 0 c).before (3 : Fin 5) t0_0 d = vstg m ρ c := by
  unfold Dat.before; rw [if_pos (fetch0_3 _)]; rfl

/-- What the pipeline hands the body. -/
def handed (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What it takes back. -/
def returned (c : Dev nD) : sProp 𝕄 :=
  iprop(Φ₁ (F := F) c ∗ (dats m ρ 0 c).owesAt () t0_0.succ
    ∗ stg c cc0_stg0_0 (xstg m ρ c) ∗ stg c cc0_stg1_0 (rstg m ρ c) ∗ stg c cc0_stg2_0 (ustg m ρ c) ∗ stg c cc0_stg3_0 (vstg m ρ c)
    ∗ stg c cc0_stg4_0 (outAt m ρ c))

theorem handed_pre (c : Dev nD) : handed m ρ c ⊢ iprop(∃ K, bodyPre m ρ K c) := by
  unfold handed Φ₀ start bodyPre ow
  iintro ⟨⟨⟨⟨%K, Hg⟩, Hc, HL⟩, Hs⟩, ⟨%W, %hW, HO⟩, ⟨%d0, H0⟩, ⟨%d1, H1⟩, ⟨%d2, H2⟩, ⟨%d3, H3⟩, ⟨%d4, %f, %e, H4⟩⟩
  ihave H0 := (Entails.of_eq (congrArg (stg c cc0_stg0_0) (before_x m ρ c d0))) $$ H0
  ihave H1 := (Entails.of_eq (congrArg (stg c cc0_stg1_0) (before_r m ρ c d1))) $$ H1
  ihave H2 := (Entails.of_eq (congrArg (stg c cc0_stg2_0) (before_u m ρ c d2))) $$ H2
  ihave H3 := (Entails.of_eq (congrArg (stg c cc0_stg3_0) (before_v m ρ c d3))) $$ H3
  iexists K
  isplitl [Hg Hc HL Hs]
  · isplitl [Hg]; · iexact Hg
    isplitl [Hc]; · iexact Hc
    isplitl [HL]; · iexact HL
    iexact Hs
  isplitl [HO]; · iexists W; iexact HO
  isplitl [H0]; · iexact H0
  isplitl [H1]; · iexact H1
  isplitl [H2]; · iexact H2
  isplitl [H3]; · iexact H3
  iexists f; iexact H4

theorem post_returned (c : Dev nD) : bodyPost m ρ c ⊢ returned m ρ c := by
  unfold bodyPost returned ow
  iintro ⟨HΦ, ⟨%W, HO⟩, H⟩
  isplitl [HΦ]; · iexact HΦ
  isplitl [HO]
  · iexists W; isplitr; · ipureintro; exact fun _ _ => Or.inl trivial
    iexact HO
  iexact H

/-- The body's obligation to the pipeline. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show handed m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9) (fun _ => returned m ρ c)
  iintro H
  ihave H := (handed_pre m ρ c) $$ H
  icases H with ⟨%K, H⟩
  iapply (sound_body m ρ K c fun _ => returned m ρ c)
  isplitl [H]; · iexact H
  iintro H; iapply (post_returned m ρ c); iexact H

/-! ## The ghost state at launch -/

abbrev osem : Fin 18 → SemLoc sig := fun j => .dma (dmaS j)

theorem ownSemFacts : Pipeline.OwnSemFacts cfg0.spec osem := by decide

theorem share_eq (c : Dev nD) (w : Fin cfg0.W) : (dats m ρ 0 c).share w = fullShare := by unfold Dat.share; split <;> rfl

theorem csem_injective : ∀ k k' : Fin 19, csem k = csem k' → k = k' := by decide

theorem kcell_injective : Function.Injective (kcell : Dev nD × Fin 19 → GSem nD τ sig) := by
  rintro ⟨c, k⟩ ⟨c', k'⟩ h
  have h1 : c = c' := congrArg (fun g : GSem nD τ sig => g.1.1) h
  subst h1
  exact congrArg (Prod.mk c) (csem_injective k k' (congrArg Prod.snd h))

def ringCells : Finset (GSem nD τ sig) := Finset.univ.map ⟨kcell, kcell_injective⟩

/-- Every duty's token: on a device's barrier cell one for each neighbour, on each of its transfer cells one. -/
abbrev tokSem : Fin 20 → SemLoc sig × Bool :=
  Fin.cases (.reg barS, false) (Fin.cases (.reg barS, true) fun j => (.dma (dmaS j), false))
abbrev tokOf (ck : Dev nD × Fin 20) : GSem nD τ sig × ℕ × Bool := (((ck.1 : Thread nD τ), (tokSem ck.2).1), 0, (tokSem ck.2).2)

theorem tokSem_injective : ∀ k k' : Fin 20, tokSem k = tokSem k' → k = k' := by decide

theorem tokOf_injective : Function.Injective (tokOf : Dev nD × Fin 20 → GSem nD τ sig × ℕ × Bool) := by
  rintro ⟨c, k⟩ ⟨c', k'⟩ h
  have h1 : c = c' := congrArg (fun x : GSem nD τ sig × ℕ × Bool => x.1.1.1) h
  subst h1
  exact congrArg (Prod.mk c) (tokSem_injective k k' (Prod.ext (congrArg (fun x : GSem nD τ sig × ℕ × Bool => x.1.2) h) (congrArg (fun x : GSem nD τ sig × ℕ × Bool => x.2.2) h)))

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the duties on device `c`'s own cells. -/
def ownToks (c : Dev nD) : sProp 𝕄 :=
  iprop(dutyTok ER (barC c) 0 false ∗ dutyTok ER (barC c) 0 true ∗ bigSep Finset.univ fun j : Fin 18 => dutyTok ER (dmaC c j) 0 false)

/-- What each device is dealt first. -/
def G (c : Dev nD) : sProp 𝕄 :=
  iprop((bigSep Finset.univ fun k : Fin 19 => roundState ER (talk m ρ) (kcell (c, k)) 0)
    ∗ (bigSep Finset.univ fun k : Fin 19 => iprop(atPos ER (kcell (c, k)) 0 ∅ 0 ∗ reached ER (kcell (c, k)) 0)) ∗ ownToks c)

/-- What it has once the cells' invariants are made. -/
def G' (c : Dev nD) : sProp 𝕄 := iprop(∃ K, ghost m ρ K c)

theorem nineteen (Φ : Fin 19 → sProp 𝕄) : bigSep Finset.univ Φ = iprop(Φ 0 ∗ bigSep Finset.univ fun j : Fin 18 => Φ j.succ) := by
  rw [eighteen]
  rw [bigSep_univ_eq_bigSepL [0, 1, 2, 3, 4, 5, 6, 7, 8, 9, 10, 11, 12, 13, 14, 15, 16, 17, 18] (by decide) (by decide)]; rfl
theorem twenty (Φ : Fin 20 → sProp 𝕄) : bigSep Finset.univ Φ = iprop(Φ 0 ∗ Φ 1 ∗ bigSep Finset.univ fun j : Fin 18 => Φ j.succ.succ) := by
  rw [eighteen]
  rw [bigSep_univ_eq_bigSepL [0, 1, 2, 3, 4, 5, 6, 7, 8, 9, 10, 11, 12, 13, 14, 15, 16, 17, 18, 19] (by decide) (by decide)]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 19 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [twenty]; rfl
  iintro HX
  imod (Rounds.fund ER (talk m ρ) ringCells ringToks) $$ HX with ⟨Hst, Hr, Hat, Htok⟩
  imodintro
  ihave Hst' := (Entails.of_eq (hX fun g => roundState ER (talk m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9, 10, 11, 12, 13, 14, 15, 16, 17] (by decide) (by decide), zeros_eq]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, nineteen]
  unfold zeros
  iintro ⟨HZ, HB⟩
  isplitl [HB]; · iexact HB
  iexact HZ

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (talk m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (talk m ρ) (kcell (c, k)) 0)
      ⊢ (|={Set.univ}=> bigSep Finset.univ fun k => iprop(∃ κ : ℕ, cellInv ER (talk m ρ) κ (kcell (c, k))) : sProp 𝕄) from by
        rw [← bigSep_sep']
        exact (bigSep_mono fun k _ => (Rounds.body_intro ER (talk m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok ER (barC (left c)) 0 true ∗ dutyTok ER (barC (right c)) 0 false ∗ toks c)
/-- What of the ghost is one device's alone. -/
def linear (c : Dev nD) : sProp 𝕄 := iprop((bigSep Finset.univ fun k : Fin 19 => atPos ER (kcell (c, k)) 0 ∅ 0) ∗ payToks c)

theorem ghost_intro (K : Dev nD × Fin 19 → ℕ) (c : Dev nD) : iprop(ctx m ρ K ∗ linear c) ⊢ G' m ρ c := by
  unfold linear payToks G' ghost ats
  rw [nineteen]
  iintro ⟨#HC, ⟨HB, HA⟩, H1, H2, H3⟩
  iexists K
  isplitr; · iexact HC
  isplitl [HB]; · iexact HB
  isplitl [HA]; · iexact HA
  isplitl [H1]; · iexact H1
  isplitl [H2]; · iexact H2
  iexact H3

/-- Across the devices, one token per duty of transfer semaphore `j` is one per payer. -/
theorem around (j : Fin 18) : (bigSep Finset.univ fun c : Dev nD => (dutyTok ER (dmaC c j) 0 false : sProp 𝕄))
    = bigSep Finset.univ fun c : Dev nD => dutyTok ER (dmaC (tgt c j) j) 0 false := by
  by_cases h : j.val / 3 % 2 = 0
  · exact bigSep_congr fun c _ => by unfold tgt; rw [if_pos h]
  · by_cases h' : j.val < 12
    · rw [bigSep_univ_equiv ring (fun c : Dev nD => (dutyTok ER (dmaC c j) 0 false : sProp 𝕄))]
      exact bigSep_congr fun c _ => by unfold tgt; rw [if_neg h, if_pos h']; rfl
    · rw [bigSep_univ_equiv ring.symm (fun c : Dev nD => (dutyTok ER (dmaC c j) 0 false : sProp 𝕄))]
      exact bigSep_congr fun c _ => by unfold tgt; rw [if_neg h, if_neg h']; rfl

theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

theorem toks_around : (bigSep Finset.univ fun c : Dev nD => (ownToks c : sProp 𝕄)) ⊢ bigSep Finset.univ fun c : Dev nD => payToks c := by
  unfold ownToks payToks toks
  rw [bigSep_sep', bigSep_sep', bigSep_sep', bigSep_sep',
    bigSep_univ_equiv ring (fun c : Dev nD => (dutyTok ER (barC c) 0 false : sProp 𝕄)),
    bigSep_univ_equiv ring.symm (fun c : Dev nD => (dutyTok ER (barC c) 0 true : sProp 𝕄)),
    swap, bigSep_congr fun j _ => around (F := F) j, swap]
  iintro ⟨H1, H2, H3⟩
  isplitl [H2]; · iexact H2
  isplitl [H1]; · iexact H1
  iexact H3

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (talk m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 19 => iprop(∃ κ : ℕ, cellInv ER (talk m ρ) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (talk m ρ) κ (kcell ck) : sProp 𝕄))) $$ HI
  icases HK with ⟨%K, #HI⟩
  ihave Htk := (toks_around (F := F)) $$ Htok
  iapply (with_persistent (R := ctx m ρ K) fun c _ => ghost_intro m ρ K c)
  isplitr
  · unfold ctx; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- All devices' semaphores at zero and what was dealt make every device's ghost. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- A unit every device owes some device's cell is a credit on each such cell. -/
theorem cred_step (O : Dev nD → CellTallies nD τ sig Unit) (sm : SemLoc sig) (f finv : Dev nD → Dev nD) (h1 : ∀ c, f (finv c) = c) (h2 : ∀ d, finv (f d) = d)
    (n : ℕ) (c : Dev nD) :
    (Pipeline.launchCred (fun d => O d + tallyAt ((f d : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f finv h1 h2 () n c)

theorem creds_intro (c : Dev nD) : (Pipeline.launchCred O₀ c : sProp 𝕄) ⊢ creds c := by
  unfold creds
  rw [show (O₀ : Dev nD → CellTallies nD τ sig Unit) = fun d => owe ((dues d).drop 1) + tallyAt ((left d : Thread nD τ), .reg barS) () 1 from rfl]
  iintro H
  ihave H := (cred_step (F := F) (fun d => owe ((dues d).drop 1)) (.reg barS) left right left_right right_left 1 c) $$ H
  icases H with ⟨H, Ha⟩
  rw [show (fun d : Dev nD => owe ((dues d).drop 1)) = fun d => owe ((dues d).drop 2) + tallyAt ((right d : Thread nD τ), .reg barS) () 1 from rfl]
  ihave H := (cred_step (F := F) (fun d => owe ((dues d).drop 2)) (.reg barS) right left right_left left_right 1 c) $$ H
  icases H with ⟨H, Hb⟩
  rw [show (fun d : Dev nD => owe ((dues d).drop 2)) = fun d => owe ((dues d).drop 3) + tallyAt ((right d : Thread nD τ), .dma (dmaS 3)) () Nx from rfl]
  ihave H := (cred_step (F := F) (fun d => owe ((dues d).drop 3)) (.dma (dmaS 3)) right left right_left left_right Nx c) $$ H
  icases H with ⟨H, H3⟩
  rw [show (fun d : Dev nD => owe ((dues d).drop 3)) = fun d => owe ((dues d).drop 4) + tallyAt ((right d : Thread nD τ), .dma (dmaS 9)) () Nr from rfl]
  ihave H := (cred_step (F := F) (fun d => owe ((dues d).drop 4)) (.dma (dmaS 9)) right left right_left left_right Nr c) $$ H
  icases H with ⟨H, H9⟩
  rw [show (fun d : Dev nD => owe ((dues d).drop 4)) = fun d => owe ((dues d).drop 5) + tallyAt ((right d : Thread nD τ), .dma (dmaS 4)) () Nx from rfl]
  ihave H := (cred_step (F := F) (fun d => owe ((dues d).drop 5)) (.dma (dmaS 4)) right left right_left left_right Nx c) $$ H
  icases H with ⟨H, H4⟩
  rw [show (fun d : Dev nD => owe ((dues d).drop 5)) = fun d => owe ((dues d).drop 6) + tallyAt ((right d : Thread nD τ), .dma (dmaS 10)) () Nr from rfl]
  ihave H := (cred_step (F := F) (fun d => owe ((dues d).drop 6)) (.dma (dmaS 10)) right left right_left left_right Nr c) $$ H
  icases H with ⟨H, H10⟩
  rw [show (fun d : Dev nD => owe ((dues d).drop 6)) = fun d => owe ((dues d).drop 7) + tallyAt ((right d : Thread nD τ), .dma (dmaS 5)) () Nx from rfl]
  ihave H := (cred_step (F := F) (fun d => owe ((dues d).drop 7)) (.dma (dmaS 5)) right left right_left left_right Nx c) $$ H
  icases H with ⟨H, H5⟩
  rw [show (fun d : Dev nD => owe ((dues d).drop 7)) = fun d => owe ((dues d).drop 8) + tallyAt ((right d : Thread nD τ), .dma (dmaS 11)) () Nr from rfl]
  ihave H := (cred_step (F := F) (fun d => owe ((dues d).drop 8)) (.dma (dmaS 11)) right left right_left left_right Nr c) $$ H
  icases H with ⟨H, H11⟩
  rw [show (fun d : Dev nD => owe ((dues d).drop 8)) = fun d => owe ((dues d).drop 9) + tallyAt ((left d : Thread nD τ), .dma (dmaS 15)) () Nx from rfl]
  ihave H := (cred_step (F := F) (fun d => owe ((dues d).drop 9)) (.dma (dmaS 15)) left right left_right right_left Nx c) $$ H
  icases H with ⟨H, H15⟩
  rw [show (fun d : Dev nD => owe ((dues d).drop 9)) = fun d => owe ((dues d).drop 10) + tallyAt ((left d : Thread nD τ), .dma (dmaS 16)) () Nx from rfl]
  ihave H := (cred_step (F := F) (fun d => owe ((dues d).drop 10)) (.dma (dmaS 16)) left right left_right right_left Nx c) $$ H
  icases H with ⟨H, H16⟩
  rw [show (fun d : Dev nD => owe ((dues d).drop 10)) = fun d => owe ((dues d).drop 11) + tallyAt ((left d : Thread nD τ), .dma (dmaS 17)) () Nx from rfl]
  ihave H := (cred_step (F := F) (fun d => owe ((dues d).drop 11)) (.dma (dmaS 17)) left right left_right right_left Nx c) $$ H
  icases H with ⟨-, H17⟩
  isplitl [Ha Hb]
  · rw [show (2 : ℕ) = 1 + 1 from rfl, ← tallyAt_add]
    iapply (cred_add _ _).2
    isplitl [Ha]; · iexact Ha
    iexact Hb
  isplitl [H3]; · iexact H3
  isplitl [H9]; · iexact H9
  isplitl [H4]; · iexact H4
  isplitl [H10]; · iexact H10
  isplitl [H5]; · iexact H5
  isplitl [H11]; · iexact H11
  isplitl [H15]; · iexact H15
  isplitl [H16]; · iexact H16
  iexact H17

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  iintro ⟨Hr, HZ, HB⟩
  isplitl [HB]; · iexact HB
  isplitl [HZ]; · iexact HZ
  iexact Hr

/-- Everything owed is on a cell above the staging semaphores. -/
theorem dues_pos (c : Dev nD) (sm : SemLoc sig) (h : lvs sm = 0) : ∀ x ∈ dues c, x.1.1.2 = .tc ∧ lvs sm < lvs x.1.2 := by
  intro x hx
  rw [h]
  simp only [dues, List.mem_cons, List.not_mem_nil, or_false] at hx
  rcases hx with rfl | rfl | rfl | rfl | rfl | rfl | rfl | rfl | rfl | rfl | rfl <;> first | exact ⟨rfl, (by decide : 0 < lvs (.reg barS))⟩ | exact ⟨rfl, (by decide : 0 < lvs (.dma (dmaS 3)))⟩ | exact ⟨rfl, (by decide : 0 < lvs (.dma (dmaS 4)))⟩ | exact ⟨rfl, (by decide : 0 < lvs (.dma (dmaS 5)))⟩ | exact ⟨rfl, (by decide : 0 < lvs (.dma (dmaS 9)))⟩ | exact ⟨rfl, (by decide : 0 < lvs (.dma (dmaS 10)))⟩ | exact ⟨rfl, (by decide : 0 < lvs (.dma (dmaS 11)))⟩ | exact ⟨rfl, (by decide : 0 < lvs (.dma (dmaS 15)))⟩ | exact ⟨rfl, (by decide : 0 < lvs (.dma (dmaS 16)))⟩ | exact ⟨rfl, (by decide : 0 < lvs (.dma (dmaS 17)))⟩

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (dues c) (dues_pos c _ (by fin_cases w <;> fin_cases s <;> decide))
    · exact mayWait c _ [] (fun x hx => absurd hx List.not_mem_nil)

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with all counters zero, every fair execution of the program terminates, and in every final state each
    device's arrays hold `finalA` and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem final_x (c : Dev nD) : finalA m ρ c (0 : Fin 5) = m ((c : Thread nD τ).loc main_arg0) := (dats (F := F) m ρ 0 c).arrAt_in (0 : Fin 5) rfl _
theorem final_r (c : Dev nD) : finalA m ρ c (1 : Fin 5) = m ((c : Thread nD τ).loc main_arg1) := (dats (F := F) m ρ 0 c).arrAt_in (1 : Fin 5) rfl _
theorem final_u (c : Dev nD) : finalA m ρ c (2 : Fin 5) = m ((c : Thread nD τ).loc main_arg2) := (dats (F := F) m ρ 0 c).arrAt_in (2 : Fin 5) rfl _
theorem final_v (c : Dev nD) : finalA m ρ c (3 : Fin 5) = m ((c : Thread nD τ).loc main_arg3) := (dats (F := F) m ρ 0 c).arrAt_in (3 : Fin 5) rfl _

/-- Every final state: each device's arguments what they held, its result the kernel's, every counter zero. -/
theorem run_all : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v1) = finalA m ρ c (4 : Fin 5))
    ∧ r.2.sem = fun _ => 0) :=
  θ_run_mono (run_main m ρ) fun r h =>
    ⟨fun c => ⟨(h.1 c (0 : Fin 5)).trans (final_x m ρ c), (h.1 c (1 : Fin 5)).trans (final_r m ρ c), (h.1 c (2 : Fin 5)).trans (final_u m ρ c),
      (h.1 c (3 : Fin 5)).trans (final_v m ρ c), h.1 c (4 : Fin 5)⟩, h.2⟩

end Cert.KernelIdealProof

end
-- ==== Proof.Frames.lean ====
/-
# The frames, and the named constant

Each of the three programs runs to its end, leaves its arguments what they held and every semaphore at zero; and the one
constant the idealized kernel names has the value the table gives it.
-/
module

public import proofs.«01_k».proof.Defs
public import proofs.«01_k».proof.Proof.Kernel.Launch
public import proofs.«01_k».proof.Proof.KernelIdeal.Launch
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

theorem kernel_frame : Cert.quiescent_Kernel (hKernel := Cert.Kernel.Gen.facts) := fun m g _ =>
  θ_run_mono (Cert.KernelProof.run_all (F := Bits) m g) fun r h =>
    ⟨fun c => ⟨(h.1 c).1, (h.1 c).2.1, (h.1 c).2.2.1, (h.1 c).2.2.2.1⟩, h.2⟩

theorem ideal_frame : Cert.quiescent_KernelIdeal (hKernelIdeal := Cert.KernelIdeal.Gen.facts) := fun m g _ =>
  θ_run_mono (Cert.KernelIdealProof.run_all (F := Ideal) m g) fun r h =>
    ⟨fun c => ⟨(h.1 c).1, (h.1 c).2.1, (h.1 c).2.2.1, (h.1 c).2.2.2.1⟩, h.2⟩

theorem reference_frame : Cert.quiescent_ReferenceIdeal (hReferenceIdeal := Cert.ReferenceIdeal.Gen.facts) := fun m g _ =>
  θ_run_mono (Cert.ReferenceIdeal.Value.run (F := Ideal) m g) fun r h =>
    ⟨fun c => (h c).2, sem_eq_zero_of_no_sems (by decide) r.2⟩

theorem named : Cert.preserves_Kernel_KernelIdeal :=
  IdealRules.named_const.statement Cert.KernelIdeal.κ "no_gate" .f32 0xF149F2CA#32 ⊥ rfl

end Cert.Frames

end
-- ==== Proof.Value.Top.lean ====
/-
  The two largest of a row of gates: what a maximum, a maximum below the maximum, and a descending order say about them
  when they are strictly apart and the largest is not `+∞`, and the weights they give.
-/
module

public import Idealize.ShloMosaic.PureOps
public import Idealize.ShloMosaic.Lib.SortFacts
public import Idealize.ShloMosaic.Lib.IdealHost

@[expose] public section

noncomputable section

namespace Cert.Value

open Idealize.ShloMosaic

/-- The gate at `a` is the largest, the gate at `b` the second, every other is smaller; the largest is not `+∞`. -/
structure Top2 {n : ℕ} (g : Fin n → EReal) (a b : Fin n) : Prop where
  lt : g b < g a
  rest : ∀ e, e ≠ a → e ≠ b → g e < g b
  fin : g a < ⊤

/-- A running maximum from `−∞` is the value that bounds the entries and is one of them. -/
theorem fold_max_eq {n : ℕ} (f : Fin n → EReal) (v : EReal) (hle : ∀ k, f k ≤ v) (k : Fin n) (hk : f k = v) :
    Finset.fold max (⊥ : EReal) f Finset.univ = v :=
  le_antisymm (Finset.fold_max_le _ |>.mpr ⟨bot_le, fun k _ => hle k⟩) (Finset.le_fold_max _ |>.mpr (Or.inr ⟨k, Finset.mem_univ _, hk.ge⟩))

theorem exp_nonneg (x : EReal) : 0 ≤ Ideal.exp x := by
  induction x with
  | bot => exact le_refl _
  | top => exact le_top
  | coe r => exact EReal.coe_nonneg.mpr (Real.exp_pos r).le

theorem exp_zero : Ideal.exp 0 = 1 := by
  show ((Real.exp 0 : ℝ) : EReal) = 1
  simp

theorem one_add_exp_ne (x : EReal) : 1 + Ideal.exp x ≠ 0 :=
  ne_of_gt (lt_of_lt_of_le zero_lt_one (le_add_of_nonneg_right (exp_nonneg x)))

/-- The weight the kernel gives to a gate `v`, from the largest gate `m₁` and the second `m₂`. -/
def weight (m₁ m₂ v : EReal) : EReal :=
  Ideal.div (if m₂ ≤ v then Ideal.exp (v - m₁) else 0) (1 + Ideal.exp (m₂ - m₁))

namespace Top2

variable {n : ℕ} {g : Fin n → EReal} {a b : Fin n} (H : Top2 g a b)

include H

theorem ne : a ≠ b := fun h => absurd H.lt (by rw [h]; exact lt_irrefl _)

theorem le_first (e : Fin n) : g e ≤ g a := by
  by_cases h : e = a
  · rw [h]
  by_cases h' : e = b
  · rw [h']; exact H.lt.le
  · exact ((H.rest e h h').trans H.lt).le

theorem lt_second (e : Fin n) (h : g e < g a) : g e ≤ g b := by
  by_cases h' : e = b
  · rw [h']
  · exact (H.rest e (fun h'' => absurd h (by rw [h'']; exact lt_irrefl _)) h').le

theorem sub_self : g a - g a = 0 :=
  EReal.sub_self H.fin.ne (ne_of_gt (lt_of_le_of_lt bot_le H.lt))

/-- The maximum over the gates in any order. -/
theorem max_first {k : ℕ} (π : Fin k → Fin n) (a' : Fin k) (ha : π a' = a) :
    Finset.fold max (⊥ : EReal) (fun j => g (π j)) Finset.univ = g a :=
  fold_max_eq _ _ (fun j => H.le_first _) a' (by rw [ha])

/-- The maximum over the gates below the largest, in any order. -/
theorem max_second {k : ℕ} (π : Fin k → Fin n) (b' : Fin k) (hb : π b' = b) :
    Finset.fold max (⊥ : EReal) (fun j => if g (π j) < g a then g (π j) else ⊥) Finset.univ = g b := by
  refine fold_max_eq _ _ (fun j => ?_) b' (by rw [hb]; exact if_pos H.lt)
  split
  · exact H.lt_second _ ‹_›
  · exact bot_le

theorem weight_first : weight (g a) (g b) (g a) = Ideal.div 1 (1 + Ideal.exp (g b - g a)) := by
  rw [weight, if_pos H.lt.le, H.sub_self, exp_zero]

omit H in
theorem weight_second : weight (g a) (g b) (g b) = Ideal.div (Ideal.exp (g b - g a)) (1 + Ideal.exp (g b - g a)) := by
  rw [weight, if_pos le_rfl]

theorem weight_rest (e : Fin n) (ha : e ≠ a) (hb : e ≠ b) : weight (g a) (g b) (g e) = 0 := by
  rw [weight, if_neg (not_le.mpr (H.rest e ha hb)), Ideal.zero_div (one_add_exp_ne _)]

/-- A sum over the experts under the kernel's weights has only the two largest gates' terms. -/
theorem sum_weight (Y : Fin n → EReal) :
    ∑ e, Y e * weight (g a) (g b) (g e)
      = Y a * Ideal.div 1 (1 + Ideal.exp (g b - g a)) + Y b * Ideal.div (Ideal.exp (g b - g a)) (1 + Ideal.exp (g b - g a)) := by
  rw [Finset.sum_eq_add_of_mem a b (Finset.mem_univ _) (Finset.mem_univ _) H.ne
    (fun e _ he => by rw [H.weight_rest e he.1 he.2, mul_zero]), H.weight_first, weight_second]

end Top2

/-! ## The descending order of a row -/

/-- The position of the row's `i`-th largest gate. -/
def place {n : ℕ} (g : Fin n → EReal) (i : Fin n) : Fin n := sortedFrom (fun k k' => decide (g k' < g k)) i

theorem place_anti {n : ℕ} (g : Fin n → EReal) (i j : Fin n) (h : i < j) : g (place g j) ≤ g (place g i) := by
  have := sortedFrom_noInversion (fun k k' => decide (g k' < g k)) (fun k k' => decide (g k' < g k))
    (fun a b h => by simp only [decide_eq_true_eq, decide_eq_false_iff_not, not_lt] at *; exact h.le) (fun _ _ h => h)
    (fun a b c h h' => by simp only [decide_eq_false_iff_not, not_lt] at *; exact h.trans h') i j h
  exact not_lt.mp (of_decide_eq_false this)

/-- Three strict comparisons put the first two places of the order strictly above all others. -/
theorem top2_place (g : Fin 8 → EReal) (h₁ : g (place g 1) < g (place g 0)) (h₂ : g (place g 2) < g (place g 1)) (h₃ : g (place g 0) < ⊤) :
    Top2 g (place g 0) (place g 1) := by
  refine ⟨h₁, fun e ha hb => ?_, h₃⟩
  obtain ⟨j, rfl⟩ := sortedFrom_surjective (fun k k' => decide (g k' < g k)) e
  change g (place g j) < _
  have h0 : j ≠ 0 := fun h => ha (by rw [h]; rfl)
  have h1 : j ≠ 1 := fun h => hb (by rw [h]; rfl)
  by_cases h2 : j = 2
  · rw [h2]; exact h₂
  · exact lt_of_le_of_lt (place_anti g 2 j (by omega)) h₂

end Cert.Value

end
-- ==== Proof.Value.Reference.lean ====
/-
  What the reference computes at a token and a feature, on the rows the mask keeps: the two chosen experts' outputs under
  their softmax weights, as a sum over all the experts under the kernel's weights.
-/
module

public import proofs.«01_k».proof.Proof.Value.Top
public import proofs.«01_k».proof.Proof.Gen.ReferenceIdeal.Run
public import proofs.«01_k».proof.Proof.Gen.On_no_tie
public import Idealize.ShloMosaic.Lib.Pointwise

@[expose] public section

set_option maxRecDepth 16384

noncomputable section

namespace Cert.Value

open Idealize.ShloMosaic Idealize.ShloMosaic.TcCoe

/-- The gate of token `T` for expert `e`. -/
def gate (x : FVec Ideal ⟨2, ![512, 512]⟩ .f32) (r : FVec Ideal ⟨2, ![512, 8]⟩ .f32) (T : Fin 512) (e : Fin 8) : EReal :=
  ∑ d : Fin 512, x (ix2 T d) * r (ix2 d e)

/-- Expert `e` on token `T`, at feature `f`. -/
def expert (x : FVec Ideal ⟨2, ![512, 512]⟩ .f32) (u : FVec Ideal ⟨3, ![8, 512, 1024]⟩ .f32) (v : FVec Ideal ⟨3, ![8, 1024, 512]⟩ .f32)
    (T : Fin 512) (f : Fin 512) (e : Fin 8) : EReal :=
  ∑ k : Fin 1024, max (∑ d : Fin 512, x (ix2 T d) * u (ix3 e d k)) 0 * v (ix3 e k f)

/-- The largest gates of a row, in order: the values and the experts. -/
theorem topK_at {K : ℕ} (hK : K ≤ 8) (x : FVec Ideal ⟨2, ![512, 8]⟩ .f32)
    (h : (⟨2, ![512, 8]⟩ : Shape).Slices (fun _ => 0) ⟨2, ![512, K]⟩) (T : Fin 512) (i : Fin K) :
    (Host.topK ⟨2, ![512, K]⟩ 1 (FloatOps.cmpfTotal .gt) x h).1 (ix2 T i) = x (ix2 T (place (fun e => x (ix2 T e)) (i.castLE hK)))
    ∧ (Host.topK ⟨2, ![512, K]⟩ 1 (FloatOps.cmpfTotal .gt) x h).2 (ix2 T i)
        = BitVec.ofNat 32 (place (fun e => x (ix2 T e)) (i.castLE hK)).val := by
  have hj : ∀ (j : (⟨2, ![512, 8]⟩ : Shape).Idx) (k : Fin 8), j 0 = T → j.along (1 : Fin 2) k = ix2 T k := by
    intro j k hj
    funext a
    match a with
    | ⟨0, _⟩ => exact hj
    | ⟨1, _⟩ => rfl
  have hp : ∀ j : (⟨2, ![512, 8]⟩ : Shape).Idx, j 0 = T →
      sortedFrom (n := 8) (fun k k' => (FloatOps.cmpfTotal (F := Ideal) (φ := .f32) .gt (x (j.along (1 : Fin 2) k)) (x (j.along (1 : Fin 2) k'))) == 1#1) (j 1)
        = place (fun e => x (ix2 T e)) (j 1) := by
    intro j h0
    unfold place
    congr 1
    funext k k'
    rw [hj j k h0, hj j k' h0]
    show (BitVec.ofBool (decide (x (ix2 T k') < x (ix2 T k))) == 1#1) = _
    cases decide (x (ix2 T k') < x (ix2 T k)) <;> rfl
  have hi : ∀ {β : Type} (y : (⟨2, ![512, 8]⟩ : Shape).Idx → β),
      extractStridedSlice ⟨2, ![512, K]⟩ (fun _ => 0) y h (ix2 T i) = y (ix2 T (i.castLE hK)) := by
    intro β y
    unfold extractStridedSlice
    refine congrArg y (funext fun a => ?_)
    match a with
    | ⟨0, _⟩ => exact Fin.ext (Nat.zero_add _)
    | ⟨1, _⟩ => exact Fin.ext (Nat.zero_add _)
  have hs := hp (ix2 T (i.castLE hK)) rfl
  have hx : ∀ p : Fin 8, p = place (fun e => x (ix2 T e)) (i.castLE hK) →
      x ((ix2 T (i.castLE hK) : (⟨2, ![512, 8]⟩ : Shape).Idx).along (1 : Fin 2) p) = x (ix2 T (place (fun e => x (ix2 T e)) (i.castLE hK))) := by
    rintro p rfl
    exact congrArg x (hj _ _ rfl)
  constructor
  · unfold Host.topK
    dsimp only
    rw [hi]
    exact hx _ hs
  · unfold Host.topK
    dsimp only
    rw [hi]
    exact congrArg (fun p : Fin 8 => BitVec.ofNat 32 p.val) hs

/-- A sum over the experts of what is at one of them and zero elsewhere. -/
theorem sum_pick (p : Fin 8) (Z : Fin 8 → EReal) :
    ∑ e : Fin 8, Scalar.select (IntOp.cmpi .eq (BitVec.ofNat 32 p.val) (BitVec.ofNat 32 e.val)) (Z e) (id (constant ⟨0, ![]⟩ .f32 0#32 : FVec Ideal ⟨0, ![]⟩ .f32) ix0) = Z p := by
  rw [Finset.sum_eq_single p]
  · rw [show IntOp.cmpi .eq (BitVec.ofNat 32 p.val) (BitVec.ofNat 32 p.val) = 1#1 from by revert p; decide]
    rfl
  · intro e _ he
    rw [show IntOp.cmpi .eq (BitVec.ofNat 32 p.val) (BitVec.ofNat 32 e.val) = 0#1 from by revert p e; decide]
    exact Ideal.ofBits_zero .f32
  · exact fun h => absurd (Finset.mem_univ _) h

section
open Cert.On_no_tie Cert.On_no_tie.Gen

/-- The rows the mask keeps. -/
theorem mask_top2 (x : FVec Ideal S512x512 .f32) (r : FVec Ideal S512x8 .f32) (u : FVec Ideal S8x512x1024 .f32) (v : FVec Ideal S8x1024x512 .f32)
    (T : Fin 512) (f : Fin 512) (h : Cert.On_no_tie.fn (F := Ideal) x r u v (ix2 T f) = 1#1) :
    Top2 (gate x r T) (place (gate x r T) 0) (place (gate x r T) 1) := by
  have hg : ∀ e, Ideal.matmul dot_S512x512_S512x8_S512x8_1_0_0_1_n_n x r (fun _ => 0) (ix2 T e) = gate x r T e := by
    intro e
    pointwise [gate]
  have hT : (Ideal.ofBits FTy.f32 2139095040#32) = ⊤ := by simp [Ideal.ofBits, Ideal.ieee]
  pointwise [Cert.On_no_tie.fn] at h
  simp only [(topK_at (K := 3) (by decide) _ _ T _).1, hg, hT] at h
  have bit : ∀ p q : BitVec 1, IntOp.andi p q = 1#1 → p = 1#1 ∧ q = 1#1 := by decide
  have dec : ∀ (p : Prop) [Decidable p], BitVec.ofBool (decide p) = 1#1 → p := fun p _ hp => by
    by_contra hn
    rw [decide_eq_false hn] at hp
    exact absurd hp (by decide)
  exact top2_place _ (dec _ (bit _ _ (bit _ _ h).1).1) (dec _ (bit _ _ (bit _ _ h).1).2) (dec _ (bit _ _ h).2)

end

section
open Cert.ReferenceIdeal Cert.ReferenceIdeal.Gen

/-- The reference's result at a token and a feature. -/
theorem ref_at (m : (ℓ : Loc nD τ sig) → Buf (Elt Ideal) ℓ) (c : Dev nD) (T : Fin 512) (f : Fin 512)
    (x : FVec Ideal S512x512 .f32) (r : FVec Ideal S512x8 .f32) (u : FVec Ideal S8x512x1024 .f32) (v : FVec Ideal S8x1024x512 .f32)
    (hx : m ((c : Thread nD τ).loc main_arg0) = x) (hr : m ((c : Thread nD τ).loc main_arg1) = r)
    (hu : m ((c : Thread nD τ).loc main_arg2) = u) (hv : m ((c : Thread nD τ).loc main_arg3) = v)
    (H : Top2 (gate x r T) (place (gate x r T) 0) (place (gate x r T) 1)) :
    (Cert.ReferenceIdeal.Value.res_main_v45 (F := Ideal) m c : FVec Ideal S512x512 .f32) (ix2 T f)
      = ∑ e, expert x u v T f e * weight (gate x r T (place (gate x r T) 0)) (gate x r T (place (gate x r T) 1)) (gate x r T e) := by
  have hg : ∀ e, Ideal.matmul dot_S512x512_S512x8_S512x8_1_0_0_1_n_n x r (fun _ => 0) (ix2 T e) = gate x r T e := by
    intro e
    pointwise [gate]
  have hB : (Ideal.ofBits FTy.f32 4286578688#32) = ⊥ := by simp [Ideal.ofBits, Ideal.ieee]
  rw [H.sum_weight]
  pointwise [Cert.ReferenceIdeal.Value.res_main_v45]
  rw [hx, hr, hu, hv]
  simp only [(topK_at (K := 2) (by decide) _ _ T _).1, (topK_at (K := 2) (by decide) _ _ T _).2, hg, hB]
  have hM := H.max_first (fun i : Fin 2 => place (gate x r T) (i.castLE (by decide))) 0 rfl
  have hY : ∀ e, ∑ k : Fin 1024, max (∑ d : Fin 512, u (ix3 e d k) * x (ix2 T d)) 0 * v (ix3 e k f) = expert x u v T f e :=
    fun e => Finset.sum_congr rfl fun k _ => by simp only [mul_comm]
  rw [hM]
  simp only [hY, Fin.sum_univ_two]
  refine (congrArg₂ (· + ·) (sum_pick _ _) (sum_pick _ _)).trans ?_
  have h0 : Fin.castLE (by decide : 2 ≤ 8) 0 = 0 := rfl
  have h1 : Fin.castLE (by decide : 2 ≤ 8) 1 = 1 := rfl
  rw [h0, h1, H.sub_self, exp_zero]

end

end Cert.Value

end
-- ==== Proof.Value.Device.lean ====
/-
  What one device holds and computes, in terms of the whole arrays: the gathered tokens and router columns, the gates, the
  two largest of a row, and its two experts' weighted outputs.
-/
module

public import proofs.«01_k».proof.Proof.Value.Reference
public import proofs.«01_k».proof.Proof.KernelIdeal.Talk
public import Idealize.ShloMosaic.PureOps.IdealRules

@[expose] public section

set_option maxRecDepth 16384

noncomputable section

namespace Cert.Value

open Cert.KernelIdeal Cert.KernelIdeal.Gen Cert.KernelIdealProof Cert.Slots
open Idealize.ShloMosaic Idealize.ShloMosaic.TcCoe

variable (m : (ℓ : Loc nD τ sig) → Buf (Elt Ideal) ℓ) (ρ : Dev nD → PrngReg)
variable (x : FVec Ideal ⟨2, ![512, 512]⟩ .f32) (r : FVec Ideal ⟨2, ![512, 8]⟩ .f32)
variable (u : FVec Ideal ⟨3, ![8, 512, 1024]⟩ .f32) (v : FVec Ideal ⟨3, ![8, 1024, 512]⟩ .f32)

/-- A device's place on its ring. -/
def zOf (c : Dev nD) : Fin 4 := ⟨c.val % 4, Nat.mod_lt _ (by decide)⟩

/-- The place `k` to the left of place `z`. -/
def back (z k : Fin 4) : Fin 4 := ⟨(z.val + 4 - k.val) % 4, Nat.mod_lt _ (by decide)⟩

/-- Row `t` of place `z`'s block of tokens, and expert `b` of place `z`'s two. -/
def tok (z : Fin 4) (t : Fin 128) : Fin 512 := ⟨128 * z.val + t.val, by omega⟩
def exprt (z : Fin 4) (b : Fin 2) : Fin 8 := ⟨2 * z.val + b.val, by omega⟩

/-- Each device's staged arguments are its blocks of the whole arrays. -/
structure Held : Prop where
  hx : ∀ c t f, xstg m ρ c (ix2 t f) = x (ix2 (tok (zOf c) t) f)
  hr : ∀ c d b, rstg m ρ c (ix2 d b) = r (ix2 d (exprt (zOf c) b))
  hu : ∀ c b d k, ustg m ρ c (ix3 b d k) = u (ix3 (exprt (zOf c) b) d k)
  hv : ∀ c b k f, vstg m ρ c (ix3 b k f) = v (ix3 (exprt (zOf c) b) k f)

theorem zOf_left (c : Dev nD) : zOf (left c) = back (zOf c) 1 := by revert c; decide
theorem zOf_left2 (c : Dev nD) : zOf (left (left c)) = back (zOf c) 2 := by revert c; decide
theorem zOf_left3 (c : Dev nD) : zOf (left (left (left c))) = back (zOf c) 3 := by revert c; decide
theorem back_zero (z : Fin 4) : back z 0 = z := by revert z; decide

variable {m ρ x r u v} (A : Held m ρ x r u v)

include A

theorem x0_at (c : Dev nD) (t : Fin 128) (f : Fin 512) : x0 m ρ c (ix3 0 t f) = x (ix2 (tok (zOf c) t) f) := by
  rw [← A.hx]
  unfold x0
  pointwise [k0_pay4, k0_pay3]

theorem g0_at (c : Dev nD) (d : Fin 512) (b : Fin 2) : g0 m ρ c (ix3 0 d b) = r (ix2 d (exprt (zOf c) b)) := by
  rw [← A.hr]
  unfold g0
  pointwise [k0_pay5]

/-- The gathered tokens. -/
theorem xg_at (c : Dev nD) (k : Fin 4) (t : Fin 128) (f : Fin 512) :
    stack (xgF m ρ c) (ix3 k t f) = x (ix2 (tok (back (zOf c) k) t) f) := by
  show xgF m ρ c k (ix3 0 t f) = _
  match k with
  | 0 => exact (x0_at A c t f).trans (by rw [back_zero])
  | 1 => exact (x0_at A (left c) t f).trans (by rw [zOf_left])
  | 2 => exact (x0_at A (left (left c)) t f).trans (by rw [zOf_left2])
  | 3 => exact (x0_at A (left (left (left c))) t f).trans (by rw [zOf_left3])

/-- The gathered router columns. -/
theorem rg_at (c : Dev nD) (k : Fin 4) (d : Fin 512) (b : Fin 2) :
    rgF m ρ c k (ix3 0 d b) = r (ix2 d (exprt (back (zOf c) k) b)) := by
  match k with
  | 0 => exact (g0_at A c d b).trans (by rw [back_zero])
  | 1 => exact (g0_at A (left c) d b).trans (by rw [zOf_left])
  | 2 => exact (g0_at A (left (left c)) d b).trans (by rw [zOf_left2])
  | 3 => exact (g0_at A (left (left (left c))) d b).trans (by rw [zOf_left3])

omit A

/-- The token of gathered row `T`, and the expert of gathered gate column `j`. -/
def tokOf (c : Dev nD) (T : Fin 512) : Fin 512 := tok (back (zOf c) ⟨T.val / 128, by omega⟩) ⟨T.val % 128, Nat.mod_lt _ (by decide)⟩
def expOf (c : Dev nD) (j : Fin 8) : Fin 8 := exprt (back (zOf c) ⟨j.val / 2, by omega⟩) ⟨j.val % 2, Nat.mod_lt _ (by decide)⟩

theorem expOf_surj (c : Dev nD) (e : Fin 8) : ∃ j, expOf c j = e := by
  unfold expOf
  generalize zOf c = z
  revert z e
  decide

include A

theorem pay6_at (c : Dev nD) (T f : Fin 512) : k0_pay6 (stack (xgF m ρ c)) (ix2 T f) = x (ix2 (tokOf c T) f) := by
  refine Eq.trans ?_ (xg_at A c ⟨T.val / 128, by omega⟩ ⟨T.val % 128, Nat.mod_lt _ (by decide)⟩ f)
  pointwise [k0_pay6]

/-- The gates. -/
theorem pay7_at (c : Dev nD) (T : Fin 512) (j : Fin 8) :
    k0_pay7 (stack (xgF m ρ c)) (rgF m ρ c 0) (rgF m ρ c 1) (rgF m ρ c 2) (rgF m ρ c 3) (ix2 T j) = gate x r (tokOf c T) (expOf c j) := by
  pointwise [k0_pay7]
  simp only [pay6_at A, rg_at A]
  unfold gate expOf
  match j with
  | 0 => rfl
  | 1 => rfl
  | 2 => rfl
  | 3 => rfl
  | 4 => rfl
  | 5 => rfl
  | 6 => rfl
  | 7 => rfl

variable (c : Dev nD) (T : Fin 512) {a b : Fin 8} (H : Top2 (gate x r (tokOf c T)) a b)

include H

/-- The largest gate of a row. -/
theorem pay8_at : k0_pay8 (stack (xgF m ρ c)) (rgF m ρ c 0) (rgF m ρ c 1) (rgF m ρ c 2) (rgF m ρ c 3) (ix2 T 0) = gate x r (tokOf c T) a := by
  have hB : (Ideal.ofBits FTy.f32 4286578688#32) = ⊥ := by simp [Ideal.ofBits, Ideal.ieee]
  obtain ⟨a', ha⟩ := expOf_surj c a
  pointwise [k0_pay8]
  simp only [pay7_at A, hB]
  exact H.max_first (expOf c) a' ha

/-- The second. -/
theorem pay9_at : k0_pay9 (stack (xgF m ρ c)) (rgF m ρ c 0) (rgF m ρ c 1) (rgF m ρ c 2) (rgF m ρ c 3) (ix2 T 0) = gate x r (tokOf c T) b := by
  have hB : (Ideal.ofBits FTy.f32 4286578688#32) = ⊥ := by simp [Ideal.ofBits, Ideal.ieee]
  have hN : (Named.named (F := Ideal) (φ := .f32) κ "no_gate" 4048155338#32 : EReal) = ⊥ := IdealRules.named_const.ideal_named_scalar _ _ _ _ rfl
  obtain ⟨b', hb⟩ := expOf_surj c b
  pointwise [k0_pay9]
  simp only [pay7_at A, pay8_at A c T H, hB, hN]
  exact H.max_second (expOf c) b' hb

/-- The numerators and the denominator of the weights. -/
theorem pay10_at (j : Fin 8) : k0_pay10 (stack (xgF m ρ c)) (rgF m ρ c 0) (rgF m ρ c 1) (rgF m ρ c 2) (rgF m ρ c 3) (ix2 T j)
    = if gate x r (tokOf c T) b ≤ gate x r (tokOf c T) (expOf c j) then Ideal.exp (gate x r (tokOf c T) (expOf c j) - gate x r (tokOf c T) a) else 0 := by
  pointwise [k0_pay10]
  simp only [pay7_at A, pay8_at A c T H, pay9_at A c T H]

theorem pay11_at : k0_pay11 (stack (xgF m ρ c)) (rgF m ρ c 0) (rgF m ρ c 1) (rgF m ρ c 2) (rgF m ρ c 3) (ix2 T 0)
    = Ideal.exp (gate x r (tokOf c T) b - gate x r (tokOf c T) a) := by
  pointwise [k0_pay11]
  rw [pay8_at A c T H, pay9_at A c T H]

omit H

/-- Slot `k` of what the device computes: its two experts on the tokens of the device `k` to its left, weighted. -/
theorem pt_at (k : Fin 4) (t : Fin 128) (f : Fin 512) {a b : Fin 8} (H : Top2 (gate x r (tok (back (zOf c) k) t)) a b) :
    pt m ρ c k (ix3 0 t f)
      = ∑ e : Fin 2, expert x u v (tok (back (zOf c) k) t) f (exprt (zOf c) e)
          * weight (gate x r (tok (back (zOf c) k) t) a) (gate x r (tok (back (zOf c) k) t) b) (gate x r (tok (back (zOf c) k) t) (exprt (zOf c) e)) := by
  have hT : ∀ h, tokOf c ⟨k.val * 128 + t.val, h⟩ = tok (back (zOf c) k) t := fun h =>
    congrArg₂ (fun k t => tok (back (zOf c) k) t) (Fin.ext (by show (k.val * 128 + t.val) / 128 = k.val; omega))
      (Fin.ext (by show (k.val * 128 + t.val) % 128 = t.val; omega))
  have hH : ∀ h, Top2 (gate x r (tokOf c ⟨k.val * 128 + t.val, h⟩)) a b := fun h => by rw [hT]; exact H
  have hus : ∀ b d k, slotOf (n := 2) (R := 512) (C := 1024) (ustg m ρ c) b (ix3 0 d k) = u (ix3 (exprt (zOf c) b) d k) := A.hu c
  have hvs : ∀ b k f, slotOf (n := 2) (R := 1024) (C := 512) (vstg m ρ c) b (ix3 0 k f) = v (ix3 (exprt (zOf c) b) k f) := A.hv c
  have e0 : expOf c 0 = exprt (zOf c) 0 := congrArg (fun z => exprt z 0) (back_zero (zOf c))
  have e1 : expOf c 1 = exprt (zOf c) 1 := congrArg (fun z => exprt z 1) (back_zero (zOf c))
  show part m ρ c (ix3 k t f) = _
  unfold part
  pointwise [k0_pay12]
  rw [Fin.sum_univ_two, pay10_at A c _ (hH _), pay10_at A c _ (hH _), pay11_at A c _ (hH _)]
  simp only [pay6_at A, hus, hvs, hT, e0, e1]
  rfl

end Cert.Value

end
-- ==== Proof.Value.Ring.lean ====
/-
  What a device ends with: its own tokens' outputs, the four devices' partial outputs added along the ring. On the rows the
  mask keeps it is the reference's sum over all eight experts.
-/
module

public import proofs.«01_k».proof.Proof.Value.Device

@[expose] public section

set_option maxRecDepth 16384

noncomputable section

namespace Cert.Value

open Cert.KernelIdeal Cert.KernelIdeal.Gen Cert.KernelIdealProof Cert.Slots
open Idealize.ShloMosaic Idealize.ShloMosaic.TcCoe

/-- The place `k` to the right of place `z`. -/
def fwd (z k : Fin 4) : Fin 4 := ⟨(z.val + k.val) % 4, Nat.mod_lt _ (by decide)⟩

theorem zOf_right (c : Dev nD) : zOf (right c) = fwd (zOf c) 1 := by revert c; decide
theorem zOf_right2 (c : Dev nD) : zOf (right (right c)) = fwd (zOf c) 2 := by revert c; decide
theorem zOf_right3 (c : Dev nD) : zOf (right (right (right c))) = fwd (zOf c) 3 := by revert c; decide
theorem back_fwd (z k : Fin 4) : back (fwd z k) k = z := by revert z k; decide

/-- The experts of the four places, from any place on, are the eight experts. -/
theorem sum_experts (h : Fin 8 → EReal) (z : Fin 4) :
    ∑ e : Fin 2, h (exprt z e) + (∑ e : Fin 2, h (exprt (fwd z 1) e) + (∑ e : Fin 2, h (exprt (fwd z 2) e) + ∑ e : Fin 2, h (exprt (fwd z 3) e)))
      = ∑ e, h e := by
  simp only [Fin.sum_univ_two, Fin.sum_univ_eight]
  match z with
  | 0 => show h 0 + h 1 + (h 2 + h 3 + (h 4 + h 5 + (h 6 + h 7))) = _; abel
  | 1 => show h 2 + h 3 + (h 4 + h 5 + (h 6 + h 7 + (h 0 + h 1))) = _; abel
  | 2 => show h 4 + h 5 + (h 6 + h 7 + (h 0 + h 1 + (h 2 + h 3))) = _; abel
  | 3 => show h 6 + h 7 + (h 0 + h 1 + (h 2 + h 3 + (h 4 + h 5))) = _; abel

variable {m : (ℓ : Loc nD τ sig) → Buf (Elt Ideal) ℓ} {ρ : Dev nD → PrngReg}
variable {x : FVec Ideal ⟨2, ![512, 512]⟩ .f32} {r : FVec Ideal ⟨2, ![512, 8]⟩ .f32}
variable {u : FVec Ideal ⟨3, ![8, 512, 1024]⟩ .f32} {v : FVec Ideal ⟨3, ![8, 1024, 512]⟩ .f32}

/-- The result on a device is the sum of the partial outputs for its tokens. -/
theorem out_parts (c : Dev nD) (t : Fin 128) (f : Fin 512) :
    outAt m ρ c (ix2 t f) = pt m ρ c 0 (ix3 0 t f) + (pt m ρ (right c) 1 (ix3 0 t f)
      + (pt m ρ (right (right c)) 2 (ix3 0 t f) + pt m ρ (right (right (right c))) 3 (ix3 0 t f))) := by
  unfold outAt
  pointwise [k0_pay2]
  unfold p0
  pointwise [k0_pay1]
  unfold p1
  pointwise [k0_pay14]
  unfold p2
  pointwise [k0_pay13]
  rfl

/-- The kernel's result at a token and a feature, on a row whose two largest gates stand apart. -/
theorem out_at (A : Held m ρ x r u v) (c : Dev nD) (t : Fin 128) (f : Fin 512) {a b : Fin 8} (H : Top2 (gate x r (tok (zOf c) t)) a b) :
    outAt m ρ c (ix2 t f) = ∑ e, expert x u v (tok (zOf c) t) f e
      * weight (gate x r (tok (zOf c) t) a) (gate x r (tok (zOf c) t) b) (gate x r (tok (zOf c) t) e) := by
  have at_ : ∀ (d : Dev nD) (k : Fin 4), zOf d = fwd (zOf c) k → pt m ρ d k (ix3 0 t f)
      = ∑ e : Fin 2, expert x u v (tok (zOf c) t) f (exprt (fwd (zOf c) k) e)
        * weight (gate x r (tok (zOf c) t) a) (gate x r (tok (zOf c) t) b) (gate x r (tok (zOf c) t) (exprt (fwd (zOf c) k) e)) := by
    intro d k hd
    have hb : back (zOf d) k = zOf c := by rw [hd, back_fwd]
    have := pt_at A d k t f (a := a) (b := b) (by rw [hb]; exact H)
    rw [hb, hd] at this
    exact this
  have h0 : fwd (zOf c) 0 = zOf c := by generalize zOf c = z; revert z; decide
  rw [out_parts, at_ c 0 h0.symm, at_ _ 1 (zOf_right c), at_ _ 2 (zOf_right2 c), at_ _ 3 (zOf_right3 c), h0]
  exact sum_experts (fun e => expert x u v (tok (zOf c) t) f e
      * weight (gate x r (tok (zOf c) t) a) (gate x r (tok (zOf c) t) b) (gate x r (tok (zOf c) t) e)) (zOf c)

end Cert.Value

end
-- ==== Proof.Value.Final.lean ====
/-
  The kernel's one staged block of each array is the whole array of its device: what the arguments' buffers bring in, and what
  the result's buffer leaves.
-/
module

public import proofs.«01_k».proof.Proof.KernelIdeal.Launch
public import proofs.«01_k».proof.Proof.Gen.KernelIdeal.Points
public import Idealize.ShloMosaic.Lib.Pipeline.Value

@[expose] public section

noncomputable section

namespace Cert.Value

open Cert.KernelIdeal Cert.KernelIdeal.Gen Cert.KernelIdealProof
open Idealize.ShloMosaic Idealize.ShloMosaic.TcCoe

variable (m : (ℓ : Loc nD τ sig) → Buf (Elt Ideal) ℓ) (ρ : Dev nD → PrngReg)

theorem staged_x (c : Dev nD) : xstg m ρ c = m ((c : Thread nD τ).loc main_arg0) := by
  funext i
  refine congrArg (m ((c : Thread nD τ).loc main_arg0)) (funext fun a => Fin.ext ?_)
  show 0 * _ + 1 * (i a).val = _
  omega

theorem staged_r (c : Dev nD) : rstg m ρ c = m ((c : Thread nD τ).loc main_arg1) := by
  funext i
  refine congrArg (m ((c : Thread nD τ).loc main_arg1)) (funext fun a => Fin.ext ?_)
  show 0 * _ + 1 * (i a).val = _
  omega

theorem staged_u (c : Dev nD) : ustg m ρ c = m ((c : Thread nD τ).loc main_arg2) := by
  funext i
  refine congrArg (m ((c : Thread nD τ).loc main_arg2)) (funext fun a => Fin.ext ?_)
  show 0 * _ + 1 * (i a).val = _
  omega

theorem staged_v (c : Dev nD) : vstg m ρ c = m ((c : Thread nD τ).loc main_arg3) := by
  funext i
  refine congrArg (m ((c : Thread nD τ).loc main_arg3)) (funext fun a => Fin.ext ?_)
  show 0 * _ + 1 * (i a).val = _
  omega

/-- The result's block is the whole array. -/
theorem result_emb (i : (⟨2, ![128, 512]⟩ : Shape).Idx) : (win0_4.blk (0 : Fin 1)).view.emb i = i := by
  funext a
  refine Fin.ext ?_
  show 0 * _ + 1 * (i a).val = _
  omega

/-- The result's array ends holding what the body computed. -/
theorem final_out (c : Dev nD) : finalA m ρ c (4 : Fin 5) = outAt m ρ c := by
  refine (dats m ρ 0 c).arrAt_eq_of_cover (4 : Fin 5) (outAt m ρ c) (fun t _ => ?_) (fun i => ⟨(0 : Fin 1), flush0_4 _, ?_⟩)
  · obtain rfl : t = (0 : Fin 1) := Subsingleton.elim (α := Fin 1) _ _
    funext i
    exact (congrArg (outAt m ρ c) (result_emb i)).symm
  · have h := (win0_4.blk (0 : Fin 1)).view.emb_mem_set i
    rw [result_emb] at h
    exact h

end Cert.Value

end
-- ==== Proof.Value.Equation.lean ====
/-
  The equation: each device's blocks of the arguments in, its block of the reference's result out, on the rows the mask keeps.
-/
module

public import proofs.«01_k».proof.Defs
public import proofs.«01_k».proof.Proof.Value.Ring
public import proofs.«01_k».proof.Proof.Value.Final

@[expose] public section

noncomputable section

namespace Cert.Value

open Cert.KernelIdealProof
open Idealize.ShloMosaic Idealize.ShloMosaic.TcCoe Idealize.SL.Sem

/-! ## A device's blocks -/

theorem rows_at {β : Type} (c : Fin 32) (y : (⟨2, ![512, 512]⟩ : Shape).Idx → β) (t : Fin 128) (f : Fin 512) :
    (Layout.blockN ⟨2, ![128, 512]⟩ ⟨2, ![512, 512]⟩ (Layout.meshBlock [2, 4, 4] ![[2], []] c) y) (ix2 t f) = y (ix2 (tok (zOf c) t) f) := by
  refine congrArg y (funext fun a => Fin.ext ?_)
  rw [Layout.TilesN.idx_val]
  match a with
  | ⟨0, _⟩ =>
    show (c.val / 1 % 4 * 1 + 0) * 128 + t.val = 128 * (c.val % 4) + t.val
    rw [Nat.div_one]; omega
  | ⟨1, _⟩ =>
    show 0 * 512 + f.val = f.val
    omega

theorem cols_at {β : Type} (c : Fin 32) (y : (⟨2, ![512, 8]⟩ : Shape).Idx → β) (d : Fin 512) (b : Fin 2) :
    (Layout.blockN ⟨2, ![512, 2]⟩ ⟨2, ![512, 8]⟩ (Layout.meshBlock [2, 4, 4] ![[], [2]] c) y) (ix2 d b) = y (ix2 d (exprt (zOf c) b)) := by
  refine congrArg y (funext fun a => Fin.ext ?_)
  rw [Layout.TilesN.idx_val]
  match a with
  | ⟨0, _⟩ =>
    show 0 * 512 + d.val = d.val
    omega
  | ⟨1, _⟩ =>
    show (c.val / 1 % 4 * 1 + 0) * 2 + b.val = 2 * (c.val % 4) + b.val
    rw [Nat.div_one]; omega

theorem up_at {β : Type} (c : Fin 32) (y : (⟨3, ![8, 512, 1024]⟩ : Shape).Idx → β) (b : Fin 2) (d : Fin 512) (k : Fin 1024) :
    (Layout.blockN ⟨3, ![2, 512, 1024]⟩ ⟨3, ![8, 512, 1024]⟩ (Layout.meshBlock [2, 4, 4] ![[2], [], []] c) y) (ix3 b d k)
      = y (ix3 (exprt (zOf c) b) d k) := by
  refine congrArg y (funext fun a => Fin.ext ?_)
  rw [Layout.TilesN.idx_val]
  match a with
  | ⟨0, _⟩ =>
    show (c.val / 1 % 4 * 1 + 0) * 2 + b.val = 2 * (c.val % 4) + b.val
    rw [Nat.div_one]; omega
  | ⟨1, _⟩ =>
    show 0 * 512 + d.val = d.val
    omega
  | ⟨2, _⟩ =>
    show 0 * 1024 + k.val = k.val
    omega

theorem down_at {β : Type} (c : Fin 32) (y : (⟨3, ![8, 1024, 512]⟩ : Shape).Idx → β) (b : Fin 2) (k : Fin 1024) (f : Fin 512) :
    (Layout.blockN ⟨3, ![2, 1024, 512]⟩ ⟨3, ![8, 1024, 512]⟩ (Layout.meshBlock [2, 4, 4] ![[2], [], []] c) y) (ix3 b k f)
      = y (ix3 (exprt (zOf c) b) k f) := by
  refine congrArg y (funext fun a => Fin.ext ?_)
  rw [Layout.TilesN.idx_val]
  match a with
  | ⟨0, _⟩ =>
    show (c.val / 1 % 4 * 1 + 0) * 2 + b.val = 2 * (c.val % 4) + b.val
    rw [Nat.div_one]; omega
  | ⟨1, _⟩ =>
    show 0 * 1024 + k.val = k.val
    omega
  | ⟨2, _⟩ =>
    show 0 * 512 + f.val = f.val
    omega

/-! ## The claim -/

theorem algebraic : Cert.algebraic_KernelIdeal_ReferenceIdeal_on_no_tie (hKernelIdeal := Cert.KernelIdeal.Gen.facts)
    (hReferenceIdeal := Cert.ReferenceIdeal.Gen.facts) (hOn_no_tie := Cert.On_no_tie.Gen.facts) := by
  intro m g m' g' _ hm
  have A : Held m g (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)) :=
    ⟨fun c t f => (congrFun ((staged_x m g c).trans (hm c).1) _).trans (rows_at c _ t f),
     fun c d b => (congrFun ((staged_r m g c).trans (hm c).2.1) _).trans (cols_at c _ d b),
     fun c b d k => (congrFun ((staged_u m g c).trans (hm c).2.2.1) _).trans (up_at c _ b d k),
     fun c b k f => (congrFun ((staged_v m g c).trans (hm c).2.2.2) _).trans (down_at c _ b k f)⟩
  refine ⟨Cert.ReferenceIdeal.Value.res_main_v45 (F := Ideal) m' 0, ?_, ?_⟩
  · refine θ_run_mono (run_all m g) fun r h c => ⟨fun i hi => ?_, (h.1 c).1, (h.1 c).2.1, (h.1 c).2.2.1, (h.1 c).2.2.2.1⟩
    obtain ⟨t, f, rfl⟩ : ∃ (t : Fin 128) (f : Fin 512), i = ix2 t f := ⟨i 0, i 1, eq_ix2 i⟩
    rw [rows_at] at hi
    have H := mask_top2 _ _ _ _ _ _ hi
    refine (congrFun ((h.1 c).2.2.2.2.trans (final_out m g c)) _).trans ?_
    rw [rows_at]
    exact (out_at A c t f H).trans (ref_at m' 0 (tok (zOf c) t) f _ _ _ _ rfl rfl rfl rfl H).symm
  · exact θ_run_mono (Cert.ReferenceIdeal.Value.run (F := Ideal) m' g') fun r h => ⟨fun i _ => congrFun (h 0).1 i, (h 0).2⟩

end Cert.Value

end
-- ==== Proof.lean ====
module

public import proofs.«01_k».proof.Defs
public import proofs.«01_k».proof.Proof.Frames
public import proofs.«01_k».proof.Proof.Value.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.On_no_tie

@[expose] public section

noncomputable section

namespace Cert.Proof

theorem claim : Cert.Claim :=
  ⟨Cert.Kernel.Gen.facts, Cert.KernelIdeal.Gen.facts, Cert.ReferenceIdeal.Gen.facts, Cert.On_no_tie.Gen.facts,
    Cert.Frames.kernel_frame, Cert.Frames.ideal_frame, Cert.Frames.reference_frame, Cert.Frames.named, Cert.Value.algebraic⟩

end Cert.Proof

end
